-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x28x128 : Shape := ⟨4, ![4, 512, 28, 128]⟩
abbrev S4x28 : Shape := ⟨2, ![4, 28]⟩
abbrev S32x28 : Shape := ⟨2, ![32, 28]⟩
abbrev S4x512 : Shape := ⟨2, ![4, 512]⟩
abbrev S4x28x512x128 : Shape := ⟨4, ![4, 28, 512, 128]⟩
abbrev S28x32 : Shape := ⟨2, ![28, 32]⟩
abbrev S_ : Shape := ⟨0, ![]⟩
abbrev S28x128 : Shape := ⟨2, ![28, 128]⟩
abbrev S4x1x512 : Shape := ⟨3, ![4, 1, 512]⟩
abbrev S4x512x3584 : Shape := ⟨3, ![4, 512, 3584]⟩
abbrev S1x4x512x128 : Shape := ⟨4, ![1, 4, 512, 128]⟩
abbrev S1x1x512 : Shape := ⟨3, ![1, 1, 512]⟩
abbrev S1x512x512 : Shape := ⟨3, ![1, 512, 512]⟩
abbrev S4x112x8x128 : Shape := ⟨4, ![4, 112, 8, 128]⟩
abbrev S4x4x512x128 : Shape := ⟨4, ![4, 4, 512, 128]⟩
abbrev S8x128 : Shape := ⟨2, ![8, 128]⟩
abbrev S1x128 : Shape := ⟨2, ![1, 128]⟩
abbrev S8x128x1 : Shape := ⟨3, ![8, 128, 1]⟩
abbrev S1x1x8x128 : Shape := ⟨4, ![1, 1, 8, 128]⟩
abbrev S1x512 : Shape := ⟨2, ![1, 512]⟩
abbrev S128x128 : Shape := ⟨2, ![128, 128]⟩
abbrev S1x1x128x128 : Shape := ⟨4, ![1, 1, 128, 128]⟩
abbrev S1x1 : Shape := ⟨2, ![1, 1]⟩
abbrev S1x1x512x128 : Shape := ⟨4, ![1, 1, 512, 128]⟩
abbrev S512x128 : Shape := ⟨2, ![512, 128]⟩
abbrev S64x8x128 : Shape := ⟨3, ![64, 8, 128]⟩
abbrev S1x64x8x128 : Shape := ⟨4, ![1, 64, 8, 128]⟩
abbrev S128 : Shape := ⟨1, ![128]⟩
abbrev S1x128x128 : Shape := ⟨3, ![1, 128, 128]⟩

abbrev nBuf : Space → Nat
  | .hbm => 18
  | .vmem => 13
  | .smem => 3
  | _ => 0

abbrev bufTy : (tb : Table) → Fin (tcTables nBuf tb) → BufTy
  | .hbm, ⟨0, _⟩ => ⟨S4x512x28x128, .fp8e4m3⟩
  | .hbm, ⟨1, _⟩ => ⟨S4x28, .f32⟩
  | .hbm, ⟨2, _⟩ => ⟨S4x512x28x128, .fp8e4m3⟩
  | .hbm, ⟨3, _⟩ => ⟨S4x28, .f32⟩
  | .hbm, ⟨4, _⟩ => ⟨S4x512x28x128, .fp8e4m3⟩
  | .hbm, ⟨5, _⟩ => ⟨S4x28, .f32⟩
  | .hbm, ⟨6, _⟩ => ⟨S32x28, .bf16⟩
  | .hbm, ⟨7, _⟩ => ⟨S4x512, .i32⟩
  | .hbm, ⟨8, _⟩ => ⟨S4x28x512x128, .fp8e4m3⟩
  | .hbm, ⟨9, _⟩ => ⟨S4x28x512x128, .fp8e4m3⟩
  | .hbm, ⟨10, _⟩ => ⟨S4x28x512x128, .fp8e4m3⟩
  | .hbm, ⟨11, _⟩ => ⟨S28x32, .bf16⟩
  | .hbm, ⟨12, _⟩ => ⟨S28x32, .f32⟩
  | .hbm, ⟨13, _⟩ => ⟨S_, .i32⟩
  | .hbm, ⟨14, _⟩ => ⟨S_, .f32⟩
  | .hbm, ⟨15, _⟩ => ⟨S28x128, .f32⟩
  | .hbm, ⟨16, _⟩ => ⟨S4x1x512, .i32⟩
  | .hbm, ⟨17, _⟩ => ⟨S4x512x3584, .bf16⟩
  | .local _ .vmem, ⟨0, _⟩ => ⟨S1x4x512x128, .fp8e4m3⟩
  | .local _ .vmem, ⟨1, _⟩ => ⟨S1x4x512x128, .fp8e4m3⟩
  | .local _ .vmem, ⟨2, _⟩ => ⟨S1x4x512x128, .fp8e4m3⟩
  | .local _ .vmem, ⟨3, _⟩ => ⟨S1x4x512x128, .fp8e4m3⟩
  | .local _ .vmem, ⟨4, _⟩ => ⟨S1x4x512x128, .fp8e4m3⟩
  | .local _ .vmem, ⟨5, _⟩ => ⟨S1x4x512x128, .fp8e4m3⟩
  | .local _ .vmem, ⟨6, _⟩ => ⟨S28x128, .f32⟩
  | .local _ .vmem, ⟨7, _⟩ => ⟨S1x1x512, .i32⟩
  | .local _ .vmem, ⟨8, _⟩ => ⟨S1x1x512, .i32⟩
  | .local _ .vmem, ⟨9, _⟩ => ⟨S1x512x512, .bf16⟩
  | .local _ .vmem, ⟨10, _⟩ => ⟨S1x512x512, .bf16⟩
  | .local _ .vmem, ⟨11, _⟩ => ⟨S4x112x8x128, .f32⟩
  | .local _ .vmem, ⟨12, _⟩ => ⟨S4x4x512x128, .f32⟩
  | .local _ .smem, ⟨0, _⟩ => ⟨S4x28, .f32⟩
  | .local _ .smem, ⟨1, _⟩ => ⟨S4x28, .f32⟩
  | .local _ .smem, ⟨2, _⟩ => ⟨S4x28, .f32⟩
  | _, _ => ⟨S4x512x28x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![7, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_648 : BitVec 32) : Fin 2 → Nat :=
  let arg0 : BitVec 32 := BitVec.ofNat 32 (i 0).val
  let c4_i32_647 : BitVec 32 := 4#32
  let v1600 : BitVec 32 := Scalar.muli arg0 c4_i32_647
  let v1601 : BitVec 32 := Scalar.addi v1600 c0_i32_648
  let v1602 : Index := Scalar.indexCast v1601
  let c0_649 : Index := 0#32
  ![v1602.toNat, 0]
@[reducible] def k0_t1_loop : Scf.Loop 32 :=
  let c0_i32_663 : BitVec 32 := 0#32
  let c112_i32 : BitVec 32 := 112#32
  let v1636 : BitVec 32 := Scalar.addi c0_i32_663 c112_i32
  let c1_i32_664 : BitVec 32 := 1#32
  ⟨c0_i32_663, v1636, c1_i32_664⟩
def k0_off2 (k0_t1 : Fin k0_t1_loop.trips) : Fin 4 → Nat :=
  let c0_672 : Index := 0#32
  let c0_i32_663 : BitVec 32 := 0#32
  let c1_i32_664 : BitVec 32 := 1#32
  let arg13 : BitVec 32 := Scf.iv c0_i32_663 c1_i32_664 k0_t1
  let v1689 : Index := Scalar.indexCast arg13
  let c0_673 : Index := 0#32
  let c0_674 : Index := 0#32
  ![0, v1689.toNat, 0, 0]
def k0_off3 (k0_t1 : Fin k0_t1_loop.trips) : Fin 4 → Nat :=
  let c1_677 : Index := 1#32
  let c0_i32_663 : BitVec 32 := 0#32
  let c1_i32_664 : BitVec 32 := 1#32
  let arg13 : BitVec 32 := Scf.iv c0_i32_663 c1_i32_664 k0_t1
  let v1701 : Index := Scalar.indexCast arg13
  let c0_678 : Index := 0#32
  let c0_679 : Index := 0#32
  ![1, v1701.toNat, 0, 0]
def k0_off4 (k0_t1 : Fin k0_t1_loop.trips) : Fin 4 → Nat :=
  let c2_682 : Index := 2#32
  let c0_i32_663 : BitVec 32 := 0#32
  let c1_i32_664 : BitVec 32 := 1#32
  let arg13 : BitVec 32 := Scf.iv c0_i32_663 c1_i32_664 k0_t1
  let v1713 : Index := Scalar.indexCast arg13
  let c0_683 : Index := 0#32
  let c0_684 : Index := 0#32
  ![2, v1713.toNat, 0, 0]
def k0_off5 (k0_t1 : Fin k0_t1_loop.trips) : Fin 4 → Nat :=
  let c3_687 : Index := 3#32
  let c0_i32_663 : BitVec 32 := 0#32
  let c1_i32_664 : BitVec 32 := 1#32
  let arg13 : BitVec 32 := Scf.iv c0_i32_663 c1_i32_664 k0_t1
  let v1725 : Index := Scalar.indexCast arg13
  let c0_688 : Index := 0#32
  let c0_689 : Index := 0#32
  ![3, v1725.toNat, 0, 0]
def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off6 (i : grid0.Coords) : Fin 4 → Nat :=
  let arg1 : BitVec 32 := BitVec.ofNat 32 (i 1).val
  let v1610 : Index := Scalar.indexCast arg1
  let c0_652 : Index := 0#32
  let c0_653 : Index := 0#32
  let c0_654 : Index := 0#32
  ![v1610.toNat, 0, 0, 0]
def k0_off7 (i : grid0.Coords) : Fin 4 → Nat :=
  let arg1 : BitVec 32 := BitVec.ofNat 32 (i 1).val
  let v1623 : Index := Scalar.indexCast arg1
  let c0_657 : Index := 0#32
  let c128_658 : Index := 128#32
  let c0_659 : Index := 0#32
  ![v1623.toNat, 0, 128, 0]
def k0_off8 (i : grid0.Coords) : Fin 4 → Nat :=
  let arg1 : BitVec 32 := BitVec.ofNat 32 (i 1).val
  let v1636 : Index := Scalar.indexCast arg1
  let c0_662 : Index := 0#32
  let c256_663 : Index := 256#32
  let c0_664 : Index := 0#32
  ![v1636.toNat, 0, 256, 0]
def k0_off9 (i : grid0.Coords) : Fin 4 → Nat :=
  let arg1 : BitVec 32 := BitVec.ofNat 32 (i 1).val
  let v1649 : Index := Scalar.indexCast arg1
  let c0_667 : Index := 0#32
  let c384_668 : Index := 384#32
  let c0_669 : Index := 0#32
  ![v1649.toNat, 0, 384, 0]
def k0_off10 (i : grid0.Coords) : Fin 4 → Nat :=
  let arg1 : BitVec 32 := BitVec.ofNat 32 (i 1).val
  let v1663 : Index := Scalar.indexCast arg1
  let c1_672 : Index := 1#32
  let c0_673 : Index := 0#32
  let c0_674 : Index := 0#32
  ![v1663.toNat, 1, 0, 0]
def k0_off11 (i : grid0.Coords) : Fin 4 → Nat :=
  let arg1 : BitVec 32 := BitVec.ofNat 32 (i 1).val
  let v1676 : Index := Scalar.indexCast arg1
  let c1_677 : Index := 1#32
  let c128_678 : Index := 128#32
  let c0_679 : Index := 0#32
  ![v1676.toNat, 1, 128, 0]
def k0_off12 (i : grid0.Coords) : Fin 4 → Nat :=
  let arg1 : BitVec 32 := BitVec.ofNat 32 (i 1).val
  let v1689 : Index := Scalar.indexCast arg1
  let c1_682 : Index := 1#32
  let c256_683 : Index := 256#32
  let c0_684 : Index := 0#32
  ![v1689.toNat, 1, 256, 0]
def k0_off13 (i : grid0.Coords) : Fin 4 → Nat :=
  let arg1 : BitVec 32 := BitVec.ofNat 32 (i 1).val
  let v1702 : Index := Scalar.indexCast arg1
  let c1_687 : Index := 1#32
  let c384_688 : Index := 384#32
  let c0_689 : Index := 0#32
  ![v1702.toNat, 1, 384, 0]
def k0_off14 (i : grid0.Coords) : Fin 4 → Nat :=
  let arg1 : BitVec 32 := BitVec.ofNat 32 (i 1).val
  let v1716 : Index := Scalar.indexCast arg1
  let c2_692 : Index := 2#32
  let c0_693 : Index := 0#32
  let c0_694 : Index := 0#32
  ![v1716.toNat, 2, 0, 0]
def k0_off15 (i : grid0.Coords) : Fin 4 → Nat :=
  let arg1 : BitVec 32 := BitVec.ofNat 32 (i 1).val
  let v1729 : Index := Scalar.indexCast arg1
  let c2_697 : Index := 2#32
  let c128_698 : Index := 128#32
  let c0_699 : Index := 0#32
  ![v1729.toNat, 2, 128, 0]
def k0_off16 (i : grid0.Coords) : Fin 4 → Nat :=
  let arg1 : BitVec 32 := BitVec.ofNat 32 (i 1).val
  let v1742 : Index := Scalar.indexCast arg1
  let c2_702 : Index := 2#32
  let c256_703 : Index := 256#32
  let c0_704 : Index := 0#32
  ![v1742.toNat, 2, 256, 0]
def k0_off17 (i : grid0.Coords) : Fin 4 → Nat :=
  let arg1 : BitVec 32 := BitVec.ofNat 32 (i 1).val
  let v1755 : Index := Scalar.indexCast arg1
  let c2_707 : Index := 2#32
  let c384_708 : Index := 384#32
  let c0_709 : Index := 0#32
  ![v1755.toNat, 2, 384, 0]
def k0_off18 (i : grid0.Coords) : Fin 4 → Nat :=
  let arg1 : BitVec 32 := BitVec.ofNat 32 (i 1).val
  let v1769 : Index := Scalar.indexCast arg1
  let c3_712 : Index := 3#32
  let c0_713 : Index := 0#32
  let c0_714 : Index := 0#32
  ![v1769.toNat, 3, 0, 0]
def k0_off19 (i : grid0.Coords) : Fin 4 → Nat :=
  let arg1 : BitVec 32 := BitVec.ofNat 32 (i 1).val
  let v1782 : Index := Scalar.indexCast arg1
  let c3_717 : Index := 3#32
  let c128_718 : Index := 128#32
  let c0_719 : Index := 0#32
  ![v1782.toNat, 3, 128, 0]
def k0_off20 (i : grid0.Coords) : Fin 4 → Nat :=
  let arg1 : BitVec 32 := BitVec.ofNat 32 (i 1).val
  let v1795 : Index := Scalar.indexCast arg1
  let c3_722 : Index := 3#32
  let c256_723 : Index := 256#32
  let c0_724 : Index := 0#32
  ![v1795.toNat, 3, 256, 0]
def k0_off21 (i : grid0.Coords) : Fin 4 → Nat :=
  let arg1 : BitVec 32 := BitVec.ofNat 32 (i 1).val
  let v1808 : Index := Scalar.indexCast arg1
  let c3_727 : Index := 3#32
  let c384_728 : Index := 384#32
  let c0_729 : Index := 0#32
  ![v1808.toNat, 3, 384, 0]
def k0_off22 (i : grid0.Coords) (c0_i32_3 : BitVec 32) : Fin 2 → Nat :=
  let arg1 : BitVec 32 := BitVec.ofNat 32 (i 1).val
  let v8 : Index := Scalar.indexCast arg1
  let arg0 : BitVec 32 := BitVec.ofNat 32 (i 0).val
  let c4_i32 : BitVec 32 := 4#32
  let v6 : BitVec 32 := Scalar.muli arg0 c4_i32
  let v7 : BitVec 32 := Scalar.addi v6 c0_i32_3
  let v9 : Index := Scalar.indexCast v7
  ![v8.toNat, v9.toNat]
def k0_off23 (i : grid0.Coords) : Fin 4 → Nat :=
  let arg1 : BitVec 32 := BitVec.ofNat 32 (i 1).val
  let v28 : Index := Scalar.indexCast arg1
  let c0_15 : Index := 0#32
  let c0_16 : Index := 0#32
  let c0_17 : Index := 0#32
  ![v28.toNat, 0, 0, 0]
def k0_off24 (i : grid0.Coords) : Fin 4 → Nat :=
  let arg1 : BitVec 32 := BitVec.ofNat 32 (i 1).val
  let v125 : Index := Scalar.indexCast arg1
  let c1 : Index := 1#32
  let c0_45 : Index := 0#32
  let c0_46 : Index := 0#32
  ![v125.toNat, 1, 0, 0]
def k0_off25 (i : grid0.Coords) : Fin 4 → Nat :=
  let arg1 : BitVec 32 := BitVec.ofNat 32 (i 1).val
  let v222 : Index := Scalar.indexCast arg1
  let c2 : Index := 2#32
  let c0_83 : Index := 0#32
  let c0_84 : Index := 0#32
  ![v222.toNat, 2, 0, 0]
def k0_off26 (i : grid0.Coords) : Fin 4 → Nat :=
  let arg1 : BitVec 32 := BitVec.ofNat 32 (i 1).val
  let v319 : Index := Scalar.indexCast arg1
  let c3 : Index := 3#32
  let c0_122 : Index := 0#32
  let c0_123 : Index := 0#32
  ![v319.toNat, 3, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 1 → Memref sig .tc .smem S4x28 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S4x28 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x512x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S28x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x512x28x128 : Shape := ⟨4, ![4, 512, 28, 128]⟩
abbrev S4x28 : Shape := ⟨2, ![4, 28]⟩
abbrev S32x28 : Shape := ⟨2, ![32, 28]⟩
abbrev S4x512 : Shape := ⟨2, ![4, 512]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S_ : Shape := ⟨0, ![]⟩
abbrev S512x512x1 : Shape := ⟨3, ![512, 512, 1]⟩
abbrev S512x512x28 : Shape := ⟨3, ![512, 512, 28]⟩
abbrev S28x512x512 : Shape := ⟨3, ![28, 512, 512]⟩
abbrev S4x512x1 : Shape := ⟨3, ![4, 512, 1]⟩
abbrev S4x1x512 : Shape := ⟨3, ![4, 1, 512]⟩
abbrev S4x512x512 : Shape := ⟨3, ![4, 512, 512]⟩
abbrev S4x28x512x128 : Shape := ⟨4, ![4, 28, 512, 128]⟩
abbrev S112x512x128 : Shape := ⟨3, ![112, 512, 128]⟩
abbrev S4x28x1x1 : Shape := ⟨4, ![4, 28, 1, 1]⟩
abbrev S1x28x512x512 : Shape := ⟨4, ![1, 28, 512, 512]⟩
abbrev S4x1x512x512 : Shape := ⟨4, ![4, 1, 512, 512]⟩
abbrev S4x512x3584 : Shape := ⟨3, ![4, 512, 3584]⟩
abbrev S112x512x512 : Shape := ⟨3, ![112, 512, 512]⟩
abbrev S4x28x512x512 : Shape := ⟨4, ![4, 28, 512, 512]⟩
abbrev S4x28x512 : Shape := ⟨3, ![4, 28, 512]⟩
abbrev S4x28x512x1 : Shape := ⟨4, ![4, 28, 512, 1]⟩

abbrev nBuf : Space → Nat
  | .hbm => 97
  | .vmem => 8
  | .smem => 0
  | _ => 0

abbrev bufTy : (tb : Table) → Fin (tcTables nBuf tb) → BufTy
  | .hbm, ⟨0, _⟩ => ⟨S4x512x28x128, .fp8e4m3⟩
  | .hbm, ⟨1, _⟩ => ⟨S4x28, .f32⟩
  | .hbm, ⟨2, _⟩ => ⟨S4x512x28x128, .fp8e4m3⟩
  | .hbm, ⟨3, _⟩ => ⟨S4x28, .f32⟩
  | .hbm, ⟨4, _⟩ => ⟨S4x512x28x128, .fp8e4m3⟩
  | .hbm, ⟨5, _⟩ => ⟨S4x28, .f32⟩
  | .hbm, ⟨6, _⟩ => ⟨S32x28, .bf16⟩
  | .hbm, ⟨7, _⟩ => ⟨S4x512, .i32⟩
  | .hbm, ⟨8, _⟩ => ⟨S512, .i32⟩
  | .hbm, ⟨9, _⟩ => ⟨S1x512, .i32⟩
  | .hbm, ⟨10, _⟩ => ⟨S512x1, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i1⟩
  | .hbm, ⟨18, _⟩ => ⟨S512x512, .i32⟩
  | .hbm, ⟨19, _⟩ => ⟨S_, .i32⟩
  | .hbm, ⟨20, _⟩ => ⟨S512x512, .i32⟩
  | .hbm, ⟨21, _⟩ => ⟨S512x512, .i32⟩
  | .hbm, ⟨22, _⟩ => ⟨S_, .i32⟩
  | .hbm, ⟨23, _⟩ => ⟨S512x512, .i32⟩
  | .hbm, ⟨24, _⟩ => ⟨S512x512, .i1⟩
  | .hbm, ⟨25, _⟩ => ⟨S512x512, .i32⟩
  | .hbm, ⟨26, _⟩ => ⟨S512x512, .i32⟩
  | .hbm, ⟨27, _⟩ => ⟨S_, .i32⟩
  | .hbm, ⟨28, _⟩ => ⟨S512x512, .i32⟩
  | .hbm, ⟨29, _⟩ => ⟨S512x512, .i1⟩
  | .hbm, ⟨30, _⟩ => ⟨S512x512, .i32⟩
  | .hbm, ⟨31, _⟩ => ⟨S512x512, .i32⟩
  | .hbm, ⟨32, _⟩ => ⟨S_, .i32⟩
  | .hbm, ⟨33, _⟩ => ⟨S512x512, .i32⟩
  | .hbm, ⟨34, _⟩ => ⟨S512x512, .i1⟩
  | .hbm, ⟨35, _⟩ => ⟨S512x512, .i32⟩
  | .hbm, ⟨36, _⟩ => ⟨S512x512, .i32⟩
  | .hbm, ⟨37, _⟩ => ⟨S_, .i32⟩
  | .hbm, ⟨38, _⟩ => ⟨S512x512, .i32⟩
  | .hbm, ⟨39, _⟩ => ⟨S512x512, .i1⟩
  | .hbm, ⟨40, _⟩ => ⟨S512x512, .i32⟩
  | .hbm, ⟨41, _⟩ => ⟨S512x512, .i32⟩
  | .hbm, ⟨42, _⟩ => ⟨S_, .i32⟩
  | .hbm, ⟨43, _⟩ => ⟨S512x512, .i32⟩
  | .hbm, ⟨44, _⟩ => ⟨S512x512, .i1⟩
  | .hbm, ⟨45, _⟩ => ⟨S512x512, .i32⟩
  | .hbm, ⟨46, _⟩ => ⟨S512x512, .i32⟩
  | .hbm, ⟨47, _⟩ => ⟨S_, .i32⟩
  | .hbm, ⟨48, _⟩ => ⟨S512x512, .i32⟩
  | .hbm, ⟨49, _⟩ => ⟨S512x512, .i1⟩
  | .hbm, ⟨50, _⟩ => ⟨S512x512, .i32⟩
  | .hbm, ⟨51, _⟩ => ⟨S512x512, .i32⟩
  | .hbm, ⟨52, _⟩ => ⟨S_, .i32⟩
  | .hbm, ⟨53, _⟩ => ⟨S512x512, .i32⟩
  | .hbm, ⟨54, _⟩ => ⟨S512x512, .i32⟩
  | .hbm, ⟨55, _⟩ => ⟨S_, .i32⟩
  | .hbm, ⟨56, _⟩ => ⟨S512x512, .i32⟩
  | .hbm, ⟨57, _⟩ => ⟨S512x512, .i1⟩
  | .hbm, ⟨58, _⟩ => ⟨S_, .i32⟩
  | .hbm, ⟨59, _⟩ => ⟨S_, .i32⟩
  | .hbm, ⟨60, _⟩ => ⟨S512x512, .i32⟩
  | .hbm, ⟨61, _⟩ => ⟨S512x512, .i32⟩
  | .hbm, ⟨62, _⟩ => ⟨S512x512, .i32⟩
  | .hbm, ⟨63, _⟩ => ⟨S_, .i32⟩
  | .hbm, ⟨64, _⟩ => ⟨S512x512, .i32⟩
  | .hbm, ⟨65, _⟩ => ⟨S512x512, .i1⟩
  | .hbm, ⟨66, _⟩ => ⟨S512x512, .i32⟩
  | .hbm, ⟨67, _⟩ => ⟨S512x512, .i32⟩
  | .hbm, ⟨68, _⟩ => ⟨S512x512, .i32⟩
  | .hbm, ⟨69, _⟩ => ⟨S_, .i32⟩
  | .hbm, ⟨70, _⟩ => ⟨S512x512, .i32⟩
  | .hbm, ⟨71, _⟩ => ⟨S512x512, .i1⟩
  | .hbm, ⟨72, _⟩ => ⟨S_, .i32⟩
  | .hbm, ⟨73, _⟩ => ⟨S512x512, .i32⟩
  | .hbm, ⟨74, _⟩ => ⟨S512x512, .i32⟩
  | .hbm, ⟨75, _⟩ => ⟨S512x512, .i32⟩
  | .hbm, ⟨76, _⟩ => ⟨S512x512x1, .i32⟩
  | .hbm, ⟨77, _⟩ => ⟨S512x512x28, .bf16⟩
  | .hbm, ⟨78, _⟩ => ⟨S28x512x512, .bf16⟩
  | .hbm, ⟨79, _⟩ => ⟨S4x512x1, .i32⟩
  | .hbm, ⟨80, _⟩ => ⟨S4x1x512, .i32⟩
  | .hbm, ⟨81, _⟩ => ⟨S4x512x512, .i32⟩
  | .hbm, ⟨82, _⟩ => ⟨S4x512x512, .i32⟩
  | .hbm, ⟨83, _⟩ => ⟨S4x512x512, .i1⟩
  | .hbm, ⟨84, _⟩ => ⟨S4x512x512, .i32⟩
  | .hbm, ⟨85, _⟩ => ⟨S4x28x512x128, .fp8e4m3⟩
  | .hbm, ⟨86, _⟩ => ⟨S112x512x128, .fp8e4m3⟩
  | .hbm, ⟨87, _⟩ => ⟨S4x28x512x128, .fp8e4m3⟩
  | .hbm, ⟨88, _⟩ => ⟨S112x512x128, .fp8e4m3⟩
  | .hbm, ⟨89, _⟩ => ⟨S4x28x512x128, .fp8e4m3⟩
  | .hbm, ⟨90, _⟩ => ⟨S112x512x128, .fp8e4m3⟩
  | .hbm, ⟨91, _⟩ => ⟨S4x28, .f32⟩
  | .hbm, ⟨92, _⟩ => ⟨S4x28x1x1, .f32⟩
  | .hbm, ⟨93, _⟩ => ⟨S4x28x1x1, .f32⟩
  | .hbm, ⟨94, _⟩ => ⟨S1x28x512x512, .bf16⟩
  | .hbm, ⟨95, _⟩ => ⟨S4x1x512x512, .i32⟩
  | .hbm, ⟨96, _⟩ => ⟨S4x512x3584, .bf16⟩
  | .local _ .vmem, ⟨0, _⟩ => ⟨S112x512x128, .fp8e4m3⟩
  | .local _ .vmem, ⟨1, _⟩ => ⟨S112x512x128, .fp8e4m3⟩
  | .local _ .vmem, ⟨2, _⟩ => ⟨S112x512x128, .fp8e4m3⟩
  | .local _ .vmem, ⟨3, _⟩ => ⟨S4x28x1x1, .f32⟩
  | .local _ .vmem, ⟨4, _⟩ => ⟨S4x28x1x1, .f32⟩
  | .local _ .vmem, ⟨5, _⟩ => ⟨S1x28x512x512, .bf16⟩
  | .local _ .vmem, ⟨6, _⟩ => ⟨S4x1x512x512, .i32⟩
  | .local _ .vmem, ⟨7, _⟩ => ⟨S4x512x3584, .bf16⟩
  | _, _ => ⟨S4x512x28x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_c_9 : Ref sig .tc := ⟨.hbm, 58, rfl⟩
abbrev main_c_10 : Ref sig .tc := ⟨.hbm, 59, rfl⟩
abbrev main_call0_v0 : Ref sig .tc := ⟨.hbm, 60, rfl⟩
abbrev main_call0_v1 : Ref sig .tc := ⟨.hbm, 61, rfl⟩
abbrev main_v40 : Ref sig .tc := ⟨.hbm, 62, rfl⟩
abbrev main_c_11 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_12 : Ref sig .tc := ⟨.hbm, 69, rfl⟩
abbrev main_v46 : Ref sig .tc := ⟨.hbm, 70, rfl⟩
abbrev main_v47 : Ref sig .tc := ⟨.hbm, 71, rfl⟩
abbrev main_c_13 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S112x512x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S112x512x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112x512x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x28x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x28x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x28x512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1x512x512 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x512x3584 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelRun.lean ====
module

public import proofs.«01_k».proof.Proof.Gen.Kernel.Frame
public import proofs.«01_k».proof.Proof.Gen.Kernel.Loops

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The kernel body from its nine windows and two scratch tables: whichever of its two conditionals are
taken, it ends with the input windows as they were and the result window and tables at some contents. -/
theorem kernelRun (c : Dev nD) (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole)
    (x0 : Vec F S4x28 .f32) (x1 : Vec F S4x28 .f32) (x2 : Vec F S4x28 .f32) (x3 : Vec F S1x4x512x128 .fp8e4m3) (x4 : Vec F S1x4x512x128 .fp8e4m3) (x5 : Vec F S1x4x512x128 .fp8e4m3) (x6 : Vec F S28x128 .f32) (x7 : Vec F S1x1x512 .i32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_relbias_attention i arg2 harg2 arg3 harg3 arg4 harg4 arg5 harg5 arg6 harg6 arg7 harg7 arg8 harg8 arg9 harg9 arg10 harg10 arg11 harg11 arg12 harg12) K := by
    intro E K
    simp only [cc0_relbias_attention_eq_skeleton]; unfold cc0_relbias_attention_skel
    simp only [k0_part9_eq_skeleton, k0_part3_eq_skeleton, k0_part4_eq_skeleton, k0_part5_eq_skeleton, k0_part6_eq_skeleton, k0_part7_eq_skeleton, k0_part8_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    by_cases hc0 : k0_cond1 i = 1#1 <;> by_cases hc1 : k0_cond2 i = 1#1
    all_goals
     sl_exec (disch := first | sl_exact hc0 | sl_exact hc1)
     sl_step
     iapply Hk
     isplitl [H0]
     · iexists _; isplitr; · ipureintro; exact harg2.read_unread _
       iexact H0
     isplitl [H1]
     · iexists _; isplitr; · ipureintro; exact harg3.read_unread _
       iexact H1
     isplitl [H2]
     · iexists _; isplitr; · ipureintro; exact harg4.read_unread _
       iexact H2
     isplitl [H3]
     · iexists _; isplitr; · ipureintro; exact harg5.read_unread _
       iexact H3
     isplitl [H4]
     · iexists _; isplitr; · ipureintro; exact harg6.read_unread _
       iexact H4
     isplitl [H5]
     · iexists _; isplitr; · ipureintro; exact harg7.read_unread _
       iexact H5
     isplitl [H6]
     · iexists _; isplitr; · ipureintro; exact harg8.read_unread _
       iexact H6
     isplitl [H7]
     · iexists _; isplitr; · ipureintro; exact harg9.read_unread _
       iexact H7
     isplitl [H8]
     · iexists _, _; isplitr; swap; · iexact H8
       ipureintro; rfl
     isplitl [HS0]
     · iexists _, _; isplitr; swap; · iexact HS0
       ipureintro; rfl
     iexists _, _; isplitr; swap; · iexact HS1
     ipureintro; rfl

end Cert.Kernel.Hand

end
-- ==== Proof.KernelFrame.lean ====
module

public import proofs.«01_k».proof.Proof.KernelRun
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame from a run whose result window is not named. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      (Pipeline.RDat.FramePost.arr_in h c 0 rfl).trans ((hA c 0).trans (V_main_arg1 m c)),
      ((h c).2 main_arg2 (Pipeline.mem_restRefs_of main_arg2 (by decide) (by decide))).trans (V_main_arg2 m c),
      (Pipeline.RDat.FramePost.arr_in h c 1 rfl).trans ((hA c 1).trans (V_main_arg3 m c)),
      ((h c).2 main_arg4 (Pipeline.mem_restRefs_of main_arg4 (by decide) (by decide))).trans (V_main_arg4 m c),
      (Pipeline.RDat.FramePost.arr_in h c 2 rfl).trans ((hA c 2).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-- Each window's current staging memref at point `t`. -/
abbrev ms0_0 (t : Fin cfg0.N) : Memref sig .tc .smem S4x28 .f32 := win0_0.stage (cfg0.slots t 0)
abbrev ms0_1 (t : Fin cfg0.N) : Memref sig .tc .smem S4x28 .f32 := win0_1.stage (cfg0.slots t 1)
abbrev ms0_2 (t : Fin cfg0.N) : Memref sig .tc .smem S4x28 .f32 := win0_2.stage (cfg0.slots t 2)
abbrev ms0_3 (t : Fin cfg0.N) : Memref sig .tc .vmem S1x4x512x128 .fp8e4m3 := win0_3.stage (cfg0.slots t 3)
abbrev ms0_4 (t : Fin cfg0.N) : Memref sig .tc .vmem S1x4x512x128 .fp8e4m3 := win0_4.stage (cfg0.slots t 4)
abbrev ms0_5 (t : Fin cfg0.N) : Memref sig .tc .vmem S1x4x512x128 .fp8e4m3 := win0_5.stage (cfg0.slots t 5)
abbrev ms0_6 (t : Fin cfg0.N) : Memref sig .tc .vmem S28x128 .f32 := win0_6.stage (cfg0.slots t 6)
abbrev ms0_7 (t : Fin cfg0.N) : Memref sig .tc .vmem S1x1x512 .i32 := win0_7.stage (cfg0.slots t 7)
abbrev ms0_8 (t : Fin cfg0.N) : Memref sig .tc .vmem S1x512x512 .bf16 := win0_8.stage (cfg0.slots t 8)
/-- The scratch operands: whole scoped buffers of the kernel's own, passed beside the windows. -/
abbrev scM0_0 : Memref sig .tc .vmem S4x112x8x128 .f32 := Memref.whole cc0_scratch0
abbrev scM0_1 : Memref sig .tc .vmem S4x4x512x128 .f32 := Memref.whole cc0_scratch1

/-- The scoped rest is the two scratch tables at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The result window is the one whose contents the frame does not name. -/
def forgets0 : Fin 9 → Bool := fun w => w.val == 8

/-- What each window holds after each point: an input its block, the result anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- An input window holds its block after the body, -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- and before it. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body the table names is the body at the point. -/
theorem defs₀_row (t : Fin cfg0.N) :
    defs₀ (F := F) .tc cfg0.body (cfg0.bodyArgs t (cfg0.slots t)) = bodyAt0 t := by
  unfold defs₀; rw [Defs.onTc_tc]

/-- The obligation of the pipeline, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch, with every counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Hand

end
-- ==== Proof.Scratch.lean ====
module

public import proofs.«01_k».proof.Proof.Gen.KernelIdeal.Frame
public import proofs.«01_k».proof.Proof.Gen.KernelIdeal.Loops
public import Idealize.ShloMosaic.Lib.Pipeline.FrameBody
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The pieces that building the table of diagonals writes into `arg11`, and the run that writes them. -/
def part3Run (c : Dev nD) (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) (arg0 : BitVec 32) (h1 : k0_cond1 i = 1#1)
    (x6 : Vec F S28x128 .f32) :
    { L : List (View.Piece (Elt F) S4x112x8x128 .f32) // ∀ (E : Set ℕ) (K : PUnit → sProp 𝕄) (f : BufTy.Contents (Elt F) arg11.view.ty),
      iprop(owns (c : Thread nD τ) arg8 fullShare x6 ∗ (arg11.view.loc (c : Thread nD τ) ↦[arg11.view.set]{fullShare} f)
        ∗ (iprop(owns (c : Thread nD τ) arg8 fullShare x6 ∗ (arg11.view.loc (c : Thread nD τ) ↦[arg11.view.set]{fullShare} (arg11.view.writes (Elt F) f L))) -∗ K ⟨⟩))
      ⊢ wp frame (wpE (defs₀ (F := F)) Variants.none c none) E (k0_part3 i arg2 harg2 arg3 harg3 arg4 harg4 arg5 harg5 arg6 harg6 arg7 harg7 arg8 harg8 arg9 harg9 arg10 harg10 arg11 harg11 arg12 harg12 arg0 h1) K } := by
  refine ⟨?_, fun E K f => ?run⟩
  case run =>
    rw [k0_part3_eq_skeleton]; unfold k0_part3_skel
    unfold owns
    iintro ⟨⟨%f6, %hf6, H6⟩, HS0, Hk⟩
    obtain rfl := harg8.eq_unread hf6
    sl_exec
    sl_step
    iapply Hk
    isplitl [H6]
    · iexists _; isplitr; · ipureintro; exact harg8.read_unread _
      iexact H6
    sl_close

set_option maxHeartbeats 1000000 in
/-- The pieces that building one row of mask tiles writes into `arg12`, and the run that writes them, then goes on to `jp`. -/
def maskRun (c : Dev nD) (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) (arg1 : BitVec 32) (h2 : k0_cond2 i = 1#1)
    (x7 : Vec F S1x1x512 .i32) :
    { L : List (View.Piece (Elt F) S4x4x512x128 .f32) // ∀ (β : Type) (jp : Prog (TpuEff nD τ sig (Elt F) Λ₀ .tc) β) (E : Set ℕ) (K : β → sProp 𝕄) (f : BufTy.Contents (Elt F) arg12.view.ty),
      iprop(owns (c : Thread nD τ) arg9 fullShare x7 ∗ (arg12.view.loc (c : Thread nD τ) ↦[arg12.view.set]{fullShare} f)
        ∗ (iprop(owns (c : Thread nD τ) arg9 fullShare x7 ∗ (arg12.view.loc (c : Thread nD τ) ↦[arg12.view.set]{fullShare} (arg12.view.writes (Elt F) f L)))
            -∗ wp frame (wpE (defs₀ (F := F)) Variants.none c none) E jp K))
      ⊢ wp frame (wpE (defs₀ (F := F)) Variants.none c none) E (do
    let ⟨v1599, v1600, v1635, v1637⟩ : Σ' (v1599 : IVec S1x512 32) (v1600 : IVec S1x128 32) (v1635 : FVec F S128x128 .f32), Vec F S1x1x128x128 .f32 ← k0_part4 i arg2 harg2 arg3 harg3 arg4 harg4 arg5 harg5 arg6 harg6 arg7 harg7 arg8 harg8 arg9 harg9 arg10 harg10 arg11 harg11 arg12 harg12 arg1 h2
    let ⟨v1653, v1679⟩ : Σ' (v1653 : IVec S1x128 32), FVec F S1x1x128x128 .f32 ← k0_part5 i arg2 harg2 arg3 harg3 arg4 harg4 arg5 harg5 arg6 harg6 arg7 harg7 arg8 harg8 arg9 harg9 arg10 harg10 arg11 harg11 arg12 harg12 arg1 h2 v1599 v1600 v1635 v1637
    let ⟨v1706, v1720⟩ : Σ' (v1706 : IVec S1x128 32), IVec S1x128 32 ← k0_part6 i arg2 harg2 arg3 harg3 arg4 harg4 arg5 harg5 arg6 harg6 arg7 harg7 arg8 harg8 arg9 harg9 arg10 harg10 arg11 harg11 arg12 harg12 arg1 h2 v1599 v1653 v1679
    let ⟨v1759, v1762⟩ : Σ' (v1759 : IVec S1x128 32), IVec S128x128 32 ← k0_part7 i arg2 harg2 arg3 harg3 arg4 harg4 arg5 harg5 arg6 harg6 arg7 harg7 arg8 harg8 arg9 harg9 arg10 harg10 arg11 harg11 arg12 harg12 arg1 h2 v1599 v1706 v1720
    let v1804 : IVec S128x128 1 ← k0_part8 i arg2 harg2 arg3 harg3 arg4 harg4 arg5 harg5 arg6 harg6 arg7 harg7 arg8 harg8 arg9 harg9 arg10 harg10 arg11 harg11 arg12 harg12 arg1 h2 v1599 v1759 v1762
    let v1809 : Vec F S1x1x128x128 .f32 ← Prog.lift (.load arg12 (Rect.unit (s := S4x4x512x128) (k0_off21 i) S1x1x128x128.size (k0_off21_inb i h2)).toLoadRect (View.loadsAt_vmem h_S1x1x128x128))
    Prog.lift (.store arg12 (Rect.unit (s := S4x4x512x128) (k0_off21 i) S1x1x128x128.size (k0_off21_inb i h2)) (k0_pay35 (F := F) v1804) Finset.univ (View.stores_vmem_bits_univ h_S1x1x128x128 rfl) (.inl rfl))
    jp) K } := by
  refine ⟨?_, fun β jp E K f => ?run⟩
  case run =>
    simp only [k0_part4_eq_skeleton, k0_part5_eq_skeleton, k0_part6_eq_skeleton, k0_part7_eq_skeleton, k0_part8_eq_skeleton]
    unfold owns
    iintro ⟨⟨%f7, %hf7, H7⟩, HS1, Hk⟩
    obtain rfl := harg9.eq_unread hf7
    sl_exec
    iapply Hk
    isplitl [H7]
    · iexists _; isplitr; · ipureintro; exact harg9.read_unread _
      iexact H7
    sl_close

end Cert.KernelIdeal.Hand
end
-- ==== Proof.Tail.lean ====
module

public import proofs.«01_k».proof.Proof.Scratch

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body after both tables are ready, up to the first scores: the first unit's loads. -/
def tail9 (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) :
    Prog (TpuEff nD τ sig (Elt F) Λ₀ .tc) (Σ' (arg0 : BitVec 32) (arg1 : BitVec 32) (v7 : BitVec 32) (v15 : F .f32), FVec F S512x128 .f32) :=
  let arg0 : BitVec 32 := BitVec.ofNat 32 (i 0).val
  let arg1 : BitVec 32 := BitVec.ofNat 32 (i 1).val
  do
      let v6 : BitVec 32 := Scalar.muli arg0 4#32
      let v7 : BitVec 32 := Scalar.addi v6 0#32
      let v10 : Elt F .f32 ← smemLoad arg2 (Rect.unit (s := S4x28) (k0_off22 i 0#32) S1x1.size (k0_off22_inb i 0)) numel1_S1x1 rfl
      let v13 : Elt F .f32 ← smemLoad arg3 (Rect.unit (s := S4x28) (k0_off22 i 0#32) S1x1.size (k0_off22_inb i 0)) numel1_S1x1 rfl
      let v16 : Vec F S1x1x128x128 .fp8e4m3 ← Prog.lift (.load arg5 (Rect.unit (s := S1x4x512x128) ![0, 0, 0, 0] S1x1x128x128.size inb_S1x4x512x128_S1x1x128x128_0_0_0_0).toLoadRect (View.loadsAt_vmem h_S1x1x128x128))
      let v18 : Vec F S1x1x512x128 .fp8e4m3 ← Prog.lift (.load arg6 (Rect.unit (s := S1x4x512x128) ![0, 0, 0, 0] S1x1x512x128.size inb_S1x4x512x128_S1x1x512x128_0_0_0_0).toLoadRect (View.loadsAt_vmem h_S1x1x512x128))
      let v24 : Vec F S1x64x8x128 .f32 ← Prog.lift (.load arg11 (Rect.unit (s := S4x112x8x128) ![0, 48, 0, 0] S1x64x8x128.size inb_S4x112x8x128_S1x64x8x128_0_48_0_0).toLoadRect (View.loadsAt_vmem h_S1x64x8x128))
      let v29 : Vec F S1x1x512x128 .f32 ← Prog.lift (.load arg12 (Rect.unit (s := S4x4x512x128) (k0_off23 i) S1x1x512x128.size (k0_off23_inb i)).toLoadRect (View.loadsAt_vmem h_S1x1x512x128))
      pure ⟨arg0, arg1, v7, k0_pay36 v10 v13, k0_pay37 v10 v13 v16 v18 v24 v29⟩

/-- The rest of the body: the sixteen units one after another. -/
def rest10 (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) :
    (Σ' (arg0 : BitVec 32) (arg1 : BitVec 32) (v7 : BitVec 32) (v15 : F .f32), FVec F S512x128 .f32) → Prog (TpuEff nD τ sig (Elt F) Λ₀ .tc) PUnit := fun ⟨arg0, arg1, v7, v15, v31⟩ => do
    let ⟨v36, v40, v42, v78, v79⟩ : Σ' (v36 : FVec F S512x128 .f32) (v40 : FVec F S1x128 .f32) (v42 : FVec F S1x128 .f32) (v78 : IVec S1x128 32), IVec S1x128 32 ← k0_part10 i arg2 harg2 arg3 harg3 arg4 harg4 arg5 harg5 arg6 harg6 arg7 harg7 arg8 harg8 arg9 harg9 arg10 harg10 arg11 harg11 arg12 harg12 v31
    let v117 : FVec F S512x128 .f32 ← k0_part11 i arg2 harg2 arg3 harg3 arg4 harg4 arg5 harg5 arg6 harg6 arg7 harg7 arg8 harg8 arg9 harg9 arg10 harg10 arg11 harg11 arg12 harg12 arg1 v7 v36 v40 v42 v78 v79
    let ⟨v133, v137, v139, v160, c67108864_i32_56⟩ : Σ' (v133 : FVec F S512x128 .f32) (v137 : FVec F S1x128 .f32) (v139 : FVec F S1x128 .f32) (v160 : IVec S1x128 32), BitVec 32 ← k0_part12 i arg2 harg2 arg3 harg3 arg4 harg4 arg5 harg5 arg6 harg6 arg7 harg7 arg8 harg8 arg9 harg9 arg10 harg10 arg11 harg11 arg12 harg12 arg1 v15 v117
    let v206 : FVec F S128x128 .bf16 ← k0_part13 i arg2 harg2 arg3 harg3 arg4 harg4 arg5 harg5 arg6 harg6 arg7 harg7 arg8 harg8 arg9 harg9 arg10 harg10 arg11 harg11 arg12 harg12 arg1 v7 v133 v137 v139 v160 c67108864_i32_56
    let ⟨v230, v234, v236, v242⟩ : Σ' (v230 : FVec F S512x128 .f32) (v234 : FVec F S1x128 .f32) (v236 : FVec F S1x128 .f32), IVec S1x128 32 ← k0_part14 i arg2 harg2 arg3 harg3 arg4 harg4 arg5 harg5 arg6 harg6 arg7 harg7 arg8 harg8 arg9 harg9 arg10 harg10 arg11 harg11 arg12 harg12 arg1 v15 v206
    let ⟨v280, v291⟩ : Σ' (v280 : FVec F S1x128 .f32), FVec F S512x128 .fp8e4m3 ← k0_part15 i arg2 harg2 arg3 harg3 arg4 harg4 arg5 harg5 arg6 harg6 arg7 harg7 arg8 harg8 arg9 harg9 arg10 harg10 arg11 harg11 arg12 harg12 v230 v234 v236 v242
    let ⟨v322, v325⟩ : Σ' (v322 : FVec F S512x128 .f32), FVec F S512x128 .f32 ← k0_part16 i arg2 harg2 arg3 harg3 arg4 harg4 arg5 harg5 arg6 harg6 arg7 harg7 arg8 harg8 arg9 harg9 arg10 harg10 arg11 harg11 arg12 harg12 arg1 v7 v15 v280 v291
    let ⟨v327, v331, v369, v371, v373⟩ : Σ' (v327 : FVec F S512x128 .f32) (v331 : FVec F S1x128 .f32) (v369 : IVec S1x128 32) (v371 : IVec S1x128 32), IVec S1x128 1 ← k0_part17 i arg2 harg2 arg3 harg3 arg4 harg4 arg5 harg5 arg6 harg6 arg7 harg7 arg8 harg8 arg9 harg9 arg10 harg10 arg11 harg11 arg12 harg12 v322 v325
    let ⟨v405, v413⟩ : Σ' (v405 : BitVec 32), F .f32 ← k0_part18 i arg2 harg2 arg3 harg3 arg4 harg4 arg5 harg5 arg6 harg6 arg7 harg7 arg8 harg8 arg9 harg9 arg10 harg10 arg11 harg11 arg12 harg12 arg0 arg1 v7 v327 v331 v369 v371 v373
    let ⟨v434, v438, v440, v451, v453⟩ : Σ' (v434 : FVec F S512x128 .f32) (v438 : FVec F S1x128 .f32) (v440 : FVec F S1x128 .f32) (v451 : IVec S1x128 32), IVec S1x128 32 ← k0_part19 i arg2 harg2 arg3 harg3 arg4 harg4 arg5 harg5 arg6 harg6 arg7 harg7 arg8 harg8 arg9 harg9 arg10 harg10 arg11 harg11 arg12 harg12 arg1 v413
    let ⟨v484, v498⟩ : Σ' (v484 : FVec F S1x128 .f32), FVec F S128x128 .f32 ← k0_part20 i arg2 harg2 arg3 harg3 arg4 harg4 arg5 harg5 arg6 harg6 arg7 harg7 arg8 harg8 arg9 harg9 arg10 harg10 arg11 harg11 arg12 harg12 arg1 v434 v438 v440 v451 v453
    let ⟨v531, v535, cst_211⟩ : Σ' (v531 : FVec F S512x128 .f32) (v535 : FVec F S1x128 .f32), F .f32 ← k0_part21 i arg2 harg2 arg3 harg3 arg4 harg4 arg5 harg5 arg6 harg6 arg7 harg7 arg8 harg8 arg9 harg9 arg10 harg10 arg11 harg11 arg12 harg12 arg1 v405 v413 v484 v498
    let ⟨v581, v584⟩ : Σ' (v581 : FVec F S1x128 .f32), FVec F S1x128 .f32 ← k0_part22 i arg2 harg2 arg3 harg3 arg4 harg4 arg5 harg5 arg6 harg6 arg7 harg7 arg8 harg8 arg9 harg9 arg10 harg10 arg11 harg11 arg12 harg12 v535 cst_211
    let v619 : FVec F S512x128 .f32 ← k0_part23 i arg2 harg2 arg3 harg3 arg4 harg4 arg5 harg5 arg6 harg6 arg7 harg7 arg8 harg8 arg9 harg9 arg10 harg10 arg11 harg11 arg12 harg12 arg1 v405 v413 v531 v535 v581 v584
    let ⟨v628, v632, v634, v665, c16777216_i32_260⟩ : Σ' (v628 : FVec F S512x128 .f32) (v632 : FVec F S1x128 .f32) (v634 : FVec F S1x128 .f32) (v665 : IVec S1x128 32), BitVec 32 ← k0_part24 i arg2 harg2 arg3 harg3 arg4 harg4 arg5 harg5 arg6 harg6 arg7 harg7 arg8 harg8 arg9 harg9 arg10 harg10 arg11 harg11 arg12 harg12 v619
    let v706 : FVec F S128x128 .fp8e4m3 ← k0_part25 i arg2 harg2 arg3 harg3 arg4 harg4 arg5 harg5 arg6 harg6 arg7 harg7 arg8 harg8 arg9 harg9 arg10 harg10 arg11 harg11 arg12 harg12 arg1 v405 v628 v632 v634 v665 c16777216_i32_260
    let ⟨v725, v729, v731, v747⟩ : Σ' (v725 : FVec F S512x128 .f32) (v729 : FVec F S1x128 .f32) (v731 : FVec F S1x128 .f32), IVec S1x128 32 ← k0_part26 i arg2 harg2 arg3 harg3 arg4 harg4 arg5 harg5 arg6 harg6 arg7 harg7 arg8 harg8 arg9 harg9 arg10 harg10 arg11 harg11 arg12 harg12 arg1 v413 v706
    let ⟨v775, v789, v793⟩ : Σ' (v775 : FVec F S1x128 .f32) (v789 : FVec F S128x128 .f32), FVec F S1x128 .f32 ← k0_part27 i arg2 harg2 arg3 harg3 arg4 harg4 arg5 harg5 arg6 harg6 arg7 harg7 arg8 harg8 arg9 harg9 arg10 harg10 arg11 harg11 arg12 harg12 arg1 v405 v725 v729 v731 v747
    let ⟨v803, v811, v827, v829⟩ : Σ' (v803 : BitVec 32) (v811 : F .f32) (v827 : FVec F S512x128 .f32), FVec F S1x128 .f32 ← k0_part28 i arg2 harg2 arg3 harg3 arg4 harg4 arg5 harg5 arg6 harg6 arg7 harg7 arg8 harg8 arg9 harg9 arg10 harg10 arg11 harg11 arg12 harg12 arg0 arg1 v775 v789 v793
    let ⟨v832, v836, v838, v874, v876, v877⟩ : Σ' (v832 : FVec F S512x128 .f32) (v836 : FVec F S1x128 .f32) (v838 : FVec F S1x128 .f32) (v874 : IVec S1x128 32) (v876 : IVec S1x128 32), FVec F S1x128 .f32 ← k0_part29 i arg2 harg2 arg3 harg3 arg4 harg4 arg5 harg5 arg6 harg6 arg7 harg7 arg8 harg8 arg9 harg9 arg10 harg10 arg11 harg11 arg12 harg12 v827 v829
    let ⟨v914, v915⟩ : Σ' (v914 : FVec F S64x8x128 .f32), FVec F S64x8x128 .f32 ← k0_part30 i arg2 harg2 arg3 harg3 arg4 harg4 arg5 harg5 arg6 harg6 arg7 harg7 arg8 harg8 arg9 harg9 arg10 harg10 arg11 harg11 arg12 harg12 arg1 v803 v811 v832 v836 v838 v874 v876 v877
    let ⟨v929, v933, v935, v956, v958⟩ : Σ' (v929 : FVec F S512x128 .f32) (v933 : FVec F S1x128 .f32) (v935 : FVec F S1x128 .f32) (v956 : IVec S1x128 32), IVec S1x128 32 ← k0_part31 i arg2 harg2 arg3 harg3 arg4 harg4 arg5 harg5 arg6 harg6 arg7 harg7 arg8 harg8 arg9 harg9 arg10 harg10 arg11 harg11 arg12 harg12 arg1 v914 v915
    let ⟨v1002, v1003⟩ : Σ' (v1002 : FVec F S128x128 .bf16), Vec F S1x128x128 .bf16 ← k0_part32 i arg2 harg2 arg3 harg3 arg4 harg4 arg5 harg5 arg6 harg6 arg7 harg7 arg8 harg8 arg9 harg9 arg10 harg10 arg11 harg11 arg12 harg12 arg1 v803 v929 v933 v935 v956 v958
    let ⟨v1026, v1030, v1032, v1038, v1039⟩ : Σ' (v1026 : FVec F S512x128 .f32) (v1030 : FVec F S1x128 .f32) (v1032 : FVec F S1x128 .f32) (v1038 : IVec S1x128 32), IVec S1x128 32 ← k0_part33 i arg2 harg2 arg3 harg3 arg4 harg4 arg5 harg5 arg6 harg6 arg7 harg7 arg8 harg8 arg9 harg9 arg10 harg10 arg11 harg11 arg12 harg12 arg1 v811 v1002 v1003
    let ⟨v1076, v1087⟩ : Σ' (v1076 : FVec F S1x128 .f32), FVec F S512x128 .fp8e4m3 ← k0_part34 i arg2 harg2 arg3 harg3 arg4 harg4 arg5 harg5 arg6 harg6 arg7 harg7 arg8 harg8 arg9 harg9 arg10 harg10 arg11 harg11 arg12 harg12 v1026 v1030 v1032 v1038 v1039
    let v1123 : FVec F S512x128 .f32 ← k0_part35 i arg2 harg2 arg3 harg3 arg4 harg4 arg5 harg5 arg6 harg6 arg7 harg7 arg8 harg8 arg9 harg9 arg10 harg10 arg11 harg11 arg12 harg12 arg1 v803 v811 v1076 v1087
    let ⟨v1127, v1170, c8388608_i32_469⟩ : Σ' (v1127 : FVec F S1x128 .f32) (v1170 : IVec S1x128 32), BitVec 32 ← k0_part36 i arg2 harg2 arg3 harg3 arg4 harg4 arg5 harg5 arg6 harg6 arg7 harg7 arg8 harg8 arg9 harg9 arg10 harg10 arg11 harg11 arg12 harg12 v1123
    let ⟨v1201, v1209, v1211⟩ : Σ' (v1201 : BitVec 32) (v1209 : F .f32), FVec F S128x128 .fp8e4m3 ← k0_part37 i arg2 harg2 arg3 harg3 arg4 harg4 arg5 harg5 arg6 harg6 arg7 harg7 arg8 harg8 arg9 harg9 arg10 harg10 arg11 harg11 arg12 harg12 arg0 arg1 v803 v1123 v1127 v1170 c8388608_i32_469
    let ⟨v1230, v1234, v1236, v1247, v1249, v1251⟩ : Σ' (v1230 : FVec F S512x128 .f32) (v1234 : FVec F S1x128 .f32) (v1236 : FVec F S1x128 .f32) (v1247 : IVec S1x128 32) (v1249 : IVec S1x128 32), IVec S1x128 1 ← k0_part38 i arg2 harg2 arg3 harg3 arg4 harg4 arg5 harg5 arg6 harg6 arg7 harg7 arg8 harg8 arg9 harg9 arg10 harg10 arg11 harg11 arg12 harg12 arg1 v1209 v1211
    let ⟨v1280, v1294, v1297⟩ : Σ' (v1280 : FVec F S1x128 .f32) (v1294 : FVec F S128x128 .f32), Elt F .f32 ← k0_part39 i arg2 harg2 arg3 harg3 arg4 harg4 arg5 harg5 arg6 harg6 arg7 harg7 arg8 harg8 arg9 harg9 arg10 harg10 arg11 harg11 arg12 harg12 arg1 v1201 v1230 v1234 v1236 v1247 v1249 v1251
    let ⟨v1327, v1331, v1333⟩ : Σ' (v1327 : FVec F S512x128 .f32) (v1331 : FVec F S1x128 .f32), FVec F S1x128 .f32 ← k0_part40 i arg2 harg2 arg3 harg3 arg4 harg4 arg5 harg5 arg6 harg6 arg7 harg7 arg8 harg8 arg9 harg9 arg10 harg10 arg11 harg11 arg12 harg12 arg1 v1209 v1280 v1294 v1297
    let ⟨v1377, v1382⟩ : Σ' (v1377 : FVec F S1x128 .f32), FVec F S512x128 .f32 ← k0_part41 i arg2 harg2 arg3 harg3 arg4 harg4 arg5 harg5 arg6 harg6 arg7 harg7 arg8 harg8 arg9 harg9 arg10 harg10 arg11 harg11 arg12 harg12 v1331 v1333
    let v1415 : FVec F S512x128 .f32 ← k0_part42 i arg2 harg2 arg3 harg3 arg4 harg4 arg5 harg5 arg6 harg6 arg7 harg7 arg8 harg8 arg9 harg9 arg10 harg10 arg11 harg11 arg12 harg12 arg1 v1201 v1209 v1327 v1377 v1382
    let ⟨v1424, v1428, v1430, v1461, v1463⟩ : Σ' (v1424 : FVec F S512x128 .f32) (v1428 : FVec F S1x128 .f32) (v1430 : FVec F S1x128 .f32) (v1461 : IVec S1x128 32), IVec S1x128 32 ← k0_part43 i arg2 harg2 arg3 harg3 arg4 harg4 arg5 harg5 arg6 harg6 arg7 harg7 arg8 harg8 arg9 harg9 arg10 harg10 arg11 harg11 arg12 harg12 v1415
    let v1502 : FVec F S128x128 .fp8e4m3 ← k0_part44 i arg2 harg2 arg3 harg3 arg4 harg4 arg5 harg5 arg6 harg6 arg7 harg7 arg8 harg8 arg9 harg9 arg10 harg10 arg11 harg11 arg12 harg12 arg1 v1201 v1424 v1428 v1430 v1461 v1463
    let ⟨v1521, v1525, v1527, v1543, v1544⟩ : Σ' (v1521 : FVec F S512x128 .f32) (v1525 : FVec F S1x128 .f32) (v1527 : FVec F S1x128 .f32) (v1543 : IVec S1x128 32), IVec S1x128 32 ← k0_part45 i arg2 harg2 arg3 harg3 arg4 harg4 arg5 harg5 arg6 harg6 arg7 harg7 arg8 harg8 arg9 harg9 arg10 harg10 arg11 harg11 arg12 harg12 arg1 v1209 v1502
    let ⟨v1585, v1591⟩ : Σ' (v1585 : FVec F S128x128 .f32), FVec F S128x128 .f32 ← k0_part46 i arg2 harg2 arg3 harg3 arg4 harg4 arg5 harg5 arg6 harg6 arg7 harg7 arg8 harg8 arg9 harg9 arg10 harg10 arg11 harg11 arg12 harg12 arg1 v1201 v1521 v1525 v1527 v1543 v1544
    let v1595 : Vec F S1x128x128 .bf16 ← Prog.lift (.load arg10 (Rect.unit (s := S1x512x512) ![0, 384, 384] S1x128x128.size inb_S1x512x512_S1x128x128_0_384_384).toLoadRect (View.loadsAt_vmem h_S1x128x128))
    Prog.lift (.store arg10 (Rect.unit (s := S1x512x512) ![0, 384, 384] S1x128x128.size inb_S1x512x512_S1x128x128_0_384_384) (k0_pay1 v1585 v1591) Finset.univ (View.stores_vmem h_S1x128x128 (harg10.storeExact_slice rfl _ packedbf16_S1x512x512_S1x128x128_0_384_384) (fun _ => rfl)) (.inl rfl))
    pure ⟨⟩

set_option maxHeartbeats 2000000 in
/-- The pieces the sixteen units write into the output block, and the run that writes them. -/
def tailRun (c : Dev nD) (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) (x0 : Vec F S4x28 .f32) (x1 : Vec F S4x28 .f32) (x2 : Vec F S4x28 .f32) (x3 : Vec F S1x4x512x128 .fp8e4m3) (x4 : Vec F S1x4x512x128 .fp8e4m3) (x5 : Vec F S1x4x512x128 .fp8e4m3)
    (x11 : Vec F S4x112x8x128 .f32) (x12 : Vec F S4x4x512x128 .f32) :
    { L : List (View.Piece (Elt F) S1x512x512 .bf16) // ∀ (E : Set ℕ) (K : PUnit → sProp 𝕄) (f : BufTy.Contents (Elt F) arg10.view.ty),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg11 fullShare x11 ∗ owns (c : Thread nD τ) arg12 fullShare x12 ∗ (arg10.view.loc (c : Thread nD τ) ↦[arg10.view.set]{fullShare} f)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg11 fullShare x11 ∗ owns (c : Thread nD τ) arg12 fullShare x12 ∗ (arg10.view.loc (c : Thread nD τ) ↦[arg10.view.set]{fullShare} (arg10.view.writes (Elt F) f L))) -∗ K ⟨⟩))
      ⊢ wp frame (wpE (defs₀ (F := F)) Variants.none c none) E (tail9 i arg2 harg2 arg3 harg3 arg4 harg4 arg5 harg5 arg6 harg6 arg7 harg7 arg8 harg8 arg9 harg9 arg10 harg10 arg11 harg11 arg12 harg12) (fun r => wp frame (wpE (defs₀ (F := F)) Variants.none c none) E (rest10 i arg2 harg2 arg3 harg3 arg4 harg4 arg5 harg5 arg6 harg6 arg7 harg7 arg8 harg8 arg9 harg9 arg10 harg10 arg11 harg11 arg12 harg12 r) K) } := by
  refine ⟨?_, fun E K f => ?run⟩
  case run =>
    rw [← wp_bind]
    unfold tail9 rest10
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, H8, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg11.eq_unread hs0; obtain rfl := harg12.eq_unread hs1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; · ipureintro; exact harg11.read_unread _
      iexact HS0
    isplitl [HS1]
    · iexists _; isplitr; · ipureintro; exact harg12.read_unread _
      iexact HS1
    sl_close

end Cert.KernelIdeal.Hand
end
-- ==== Proof.Row.lean ====
/- One row of the attention, as mathematics: what the kernel makes of a row of scores (in base 2, with the
   exponent field of the scale found by bisection) and what the reference makes of it (in base e, with the
   exponent found by a logarithm) give the same codes and the same scale. -/
module

public import Idealize.ShloMosaic.PureOps
public import Idealize.ShloMosaic.Lib.Pointwise

@[expose] public section

noncomputable section

namespace Cert.Row

open Idealize.ShloMosaic

/-- `m` is the greatest of the values `s`. -/
def IsMax {ι : Type} (s : ι → EReal) (m : EReal) : Prop := (∀ j, s j ≤ m) ∧ ∃ j, s j = m

theorem IsMax.unique {ι : Type} {s : ι → EReal} {m m' : EReal} (h : IsMax s m) (h' : IsMax s m') : m = m' := by
  obtain ⟨a, j, rfl⟩ := h; obtain ⟨a', j', rfl⟩ := h'; exact le_antisymm (a' j) (a j')

/-- A fold of `max` from `⊥` over a nonempty finite type is the greatest value. -/
theorem isMax_fold {ι : Type} [Fintype ι] [Nonempty ι] (s : ι → EReal) :
    IsMax s (Finset.univ.fold max ⊥ s) := by
  have hsup : Finset.univ.fold max ⊥ s = Finset.univ.sup s := rfl
  rw [hsup]
  refine ⟨fun j => Finset.le_sup (Finset.mem_univ j), ?_⟩
  obtain ⟨j, -, hj⟩ := Finset.exists_mem_eq_sup Finset.univ Finset.univ_nonempty s
  exact ⟨j, hj.symm⟩

/-! ## Words with a zero significand -/

/-- The f32 word whose exponent field is `E` and whose other bits are zero. -/
def w (E : ℕ) : BitVec 32 := BitVec.ofNat 32 (E * 2 ^ 23)

theorem ofBits_w (E : ℕ) (h1 : 1 ≤ E) (h2 : E ≤ 254) :
    Ideal.ofBits .f32 (w E) = (((2 : ℝ) ^ ((E : ℤ) - 127) : ℝ) : EReal) := by
  have hlt : E * 2 ^ 23 < 2 ^ 32 := by norm_num; omega
  have hn : (w E).toNat = E * 2 ^ 23 := by rw [w, BitVec.toNat_ofNat, Nat.mod_eq_of_lt hlt]
  have hneg : ((w E).extractLsb' (8 + 23) 1 == 1#1) = false := by
    rw [beq_eq_false_iff_ne]; intro h
    have := congrArg BitVec.toNat h
    rw [BitVec.extractLsb'_toNat, hn, Nat.shiftRight_eq_div_pow] at this
    have h0 : E * 2 ^ 23 / 2 ^ (8 + 23) = 0 := Nat.div_eq_of_lt (by norm_num; omega)
    rw [h0] at this; simp at this
  have hex : ((w E).extractLsb' 23 8).toNat = E := by
    rw [BitVec.extractLsb'_toNat, hn, Nat.shiftRight_eq_div_pow, Nat.mul_div_cancel _ (by norm_num)]
    exact Nat.mod_eq_of_lt (by omega)
  have hfr : ((w E).extractLsb' 0 23).toNat = 0 := by
    rw [BitVec.extractLsb'_toNat, hn, Nat.shiftRight_eq_div_pow]
    simp
  show Ideal.ieee 8 23 (w E) = _
  unfold Ideal.ieee
  simp only [hneg, hex, hfr]
  rw [if_neg (by norm_num; omega), if_neg (by omega)]
  congr 1
  have h23 : ((2 ^ 23 + 0 : ℕ) : ℝ) = (2 : ℝ) ^ (23 : ℤ) := by norm_num
  rw [h23]
  simp only [Bool.false_eq_true, if_false, one_mul]
  rw [← zpow_add₀ (by norm_num : (2 : ℝ) ≠ 0)]
  congr 1
  norm_num

theorem w_add (B K : ℕ) : w B + w K = w (B + K) := by
  unfold w; rw [← BitVec.ofNat_add, Nat.add_mul]

theorem w_sub (B K : ℕ) (h : K ≤ B) : w B - w K = w (B - K) := by
  have e : w B = w (B - K) + w K := by rw [w_add, Nat.sub_add_cancel h]
  rw [e, BitVec.add_sub_cancel]

/-! ## The exponent field by bisection -/

/-- One step of the bisection: take the bit `k` if the float of the word so far is at most `x`. -/
def step (x : EReal) (b k : BitVec 32) : BitVec 32 :=
  if Ideal.cmp .ole (Ideal.ofBits .f32 (b + k)) x = 1#1 then b + k else b

/-- The exponent field of `x`, in place. -/
def bisect (x : EReal) : BitVec 32 :=
  step x (step x (step x (step x (step x (step x (step x (step x 0#32 1073741824#32) 536870912#32) 268435456#32)
    134217728#32) 67108864#32) 33554432#32) 16777216#32) 8388608#32

theorem step_w (x : ℝ) (E B K : ℕ) (h1 : 1 ≤ B + K) (h2 : B + K ≤ 254)
    (hlo : (2 : ℝ) ^ ((E : ℤ) - 127) ≤ x) (hhi : x < (2 : ℝ) ^ ((E : ℤ) - 126)) :
    step (x : EReal) (w B) (w K) = w (if B + K ≤ E then B + K else B) := by
  unfold step
  rw [w_add, ofBits_w _ h1 h2]
  have key : (((2 : ℝ) ^ (((B + K : ℕ) : ℤ) - 127) : ℝ) : EReal) ≤ (x : EReal) ↔ B + K ≤ E := by
    rw [EReal.coe_le_coe_iff]
    constructor
    · intro h
      by_contra hc
      have h3 : (2 : ℝ) ^ ((E : ℤ) - 126) ≤ (2 : ℝ) ^ (((B + K : ℕ) : ℤ) - 127) :=
        zpow_le_zpow_right₀ (by norm_num) (by omega)
      linarith
    · intro h
      refine le_trans (zpow_le_zpow_right₀ (by norm_num) (by omega)) hlo
  by_cases hc : B + K ≤ E
  · rw [if_pos hc, if_pos]
    show BitVec.ofBool (decide _) = 1#1
    rw [decide_eq_true (key.mpr hc)]; rfl
  · rw [if_neg hc, if_neg]
    have : ¬ (((2 : ℝ) ^ (((B + K : ℕ) : ℤ) - 127) : ℝ) : EReal) ≤ (x : EReal) := fun h => hc (key.mp h)
    show ¬ BitVec.ofBool (decide _) = 1#1
    rw [decide_eq_false this]; decide

theorem bisect_eq (x : ℝ) (E : ℕ) (h1 : 109 ≤ E) (h2 : E ≤ 118)
    (hlo : (2 : ℝ) ^ ((E : ℤ) - 127) ≤ x) (hhi : x < (2 : ℝ) ^ ((E : ℤ) - 126)) : bisect (x : EReal) = w E := by
  have s := fun B K a b => step_w x E B K a b hlo hhi
  unfold bisect
  rw [show (0#32 : BitVec 32) = w 0 from rfl, show (1073741824#32 : BitVec 32) = w 128 from rfl,
    show (536870912#32 : BitVec 32) = w 64 from rfl, show (268435456#32 : BitVec 32) = w 32 from rfl,
    show (134217728#32 : BitVec 32) = w 16 from rfl, show (67108864#32 : BitVec 32) = w 8 from rfl,
    show (33554432#32 : BitVec 32) = w 4 from rfl, show (16777216#32 : BitVec 32) = w 2 from rfl,
    show (8388608#32 : BitVec 32) = w 1 from rfl]
  rw [s 0 128 (by omega) (by omega), if_neg (by omega), s 0 64 (by omega) (by omega), if_pos (by omega),
    s (0 + 64) 32 (by omega) (by omega), if_pos (by omega)]
  by_cases h16 : 112 ≤ E
  · rw [s (0 + 64 + 32) 16 (by omega) (by omega), if_pos (by omega), s _ 8 (by omega) (by omega), if_neg (by omega)]
    by_cases h4 : 116 ≤ E
    · rw [s _ 4 (by omega) (by omega), if_pos (by omega)]
      by_cases h2 : 118 ≤ E
      · rw [s _ 2 (by omega) (by omega), if_pos (by omega), s _ 1 (by omega) (by omega), if_neg (by omega)]
        congr 1; omega
      · rw [s _ 2 (by omega) (by omega), if_neg (by omega), s _ 1 (by omega) (by omega)]
        congr 1; split <;> omega
    · rw [s _ 4 (by omega) (by omega), if_neg (by omega)]
      by_cases h2 : 114 ≤ E
      · rw [s _ 2 (by omega) (by omega), if_pos (by omega), s _ 1 (by omega) (by omega)]
        congr 1; split <;> omega
      · rw [s _ 2 (by omega) (by omega), if_neg (by omega), s _ 1 (by omega) (by omega)]
        congr 1; split <;> omega
  · rw [s (0 + 64 + 32) 16 (by omega) (by omega), if_neg (by omega), s _ 8 (by omega) (by omega), if_pos (by omega),
      s _ 4 (by omega) (by omega), if_pos (by omega)]
    by_cases h2 : 110 ≤ E
    · rw [s _ 2 (by omega) (by omega), if_pos (by omega), s _ 1 (by omega) (by omega)]
      congr 1; split <;> omega
    · rw [s _ 2 (by omega) (by omega), if_neg (by omega), s _ 1 (by omega) (by omega), if_pos (by omega)]
      congr 1; omega

/-! ## The constants -/

/-- `f32(1 / 448)`. -/
def c : EReal := Ideal.ofBits .f32 0x3B124925#32

theorem c_eq : c = ((9586981 * (2 : ℝ) ^ (-32 : ℤ) : ℝ) : EReal) := by
  show Ideal.ieee 8 23 0x3B124925#32 = _
  unfold Ideal.ieee
  have h1 : ((0x3B124925#32 : BitVec 32).extractLsb' (8 + 23) 1 == 1#1) = false := by decide
  have h2 : ((0x3B124925#32 : BitVec 32).extractLsb' 23 8).toNat = 118 := by decide
  have h3 : ((0x3B124925#32 : BitVec 32).extractLsb' 0 23).toNat = 1198373 := by decide
  simp only [h1, h2, h3]
  norm_num

/-- The clip to the finite range of the 8-bit codes. -/
def clip (x : EReal) : EReal := min (Ideal.ofBits .f32 0x43E00000#32) (max (Ideal.ofBits .f32 0xC3E00000#32) x)

theorem clip_zero : clip 0 = 0 := by
  have h1 : Ideal.ofBits .f32 0x43E00000#32 = ((448 : ℝ) : EReal) := by
    show Ideal.ieee 8 23 0x43E00000#32 = _
    unfold Ideal.ieee
    have h1 : ((0x43E00000#32 : BitVec 32).extractLsb' (8 + 23) 1 == 1#1) = false := by decide
    have h2 : ((0x43E00000#32 : BitVec 32).extractLsb' 23 8).toNat = 135 := by decide
    have h3 : ((0x43E00000#32 : BitVec 32).extractLsb' 0 23).toNat = 6291456 := by decide
    simp only [h1, h2, h3]
    norm_num
  have h2 : Ideal.ofBits .f32 0xC3E00000#32 = ((-448 : ℝ) : EReal) := by
    show Ideal.ieee 8 23 0xC3E00000#32 = _
    unfold Ideal.ieee
    have h1 : ((0xC3E00000#32 : BitVec 32).extractLsb' (8 + 23) 1 == 1#1) = true := by decide
    have h2 : ((0xC3E00000#32 : BitVec 32).extractLsb' 23 8).toNat = 135 := by decide
    have h3 : ((0xC3E00000#32 : BitVec 32).extractLsb' 0 23).toNat = 6291456 := by decide
    simp only [h1, h2, h3]
    norm_num
  unfold clip
  rw [h1, h2, ← EReal.coe_zero, max_eq_right (by exact_mod_cast (by norm_num : (-448 : ℝ) ≤ 0)),
    min_eq_right (by exact_mod_cast (by norm_num : (0 : ℝ) ≤ 448))]

/-! ## Base 2 against base e -/

/-- `log2 e`, the factor the kernel puts into its scores. -/
def L : EReal := (((Real.log 2)⁻¹ : ℝ) : EReal)

theorem log2_pos : 0 < (Real.log 2)⁻¹ := inv_pos.mpr (Real.log_pos (by norm_num))

theorem L_nonneg : 0 ≤ L := by unfold L; exact_mod_cast log2_pos.le

theorem L_ne_top : L ≠ ⊤ := EReal.coe_ne_top _

theorem L_mul_add (x y : EReal) : L * (x + y) = L * x + L * y :=
  EReal.left_distrib_of_nonneg_of_ne_top L_nonneg L_ne_top x y

theorem L_mul_sub (x y : EReal) : L * (x - y) = L * x - L * y := by
  rw [sub_eq_add_neg, L_mul_add, mul_neg, ← sub_eq_add_neg]

theorem L_mul_bot : L * ⊥ = ⊥ := EReal.coe_mul_bot_of_pos log2_pos

theorem exp2_L_mul (x : EReal) : Ideal.exp2 (L * x) = Ideal.exp x := by
  induction x with
  | bot => rw [L_mul_bot]; rfl
  | top => rw [L, EReal.coe_mul_top_of_pos log2_pos]; rfl
  | coe r =>
    rw [L, ← EReal.coe_mul, Ideal.exp2_coe, Ideal.exp_coe]
    congr 1
    show (2 : ℝ) ^ ((Real.log 2)⁻¹ * r) = _
    rw [Real.rpow_def_of_pos (by norm_num), ← mul_assoc, mul_inv_cancel₀ (Real.log_pos (by norm_num)).ne', one_mul]

theorem L_mul_mono : Monotone (fun x => L * x) := fun _ _ h => mul_le_mul_of_nonneg_left h L_nonneg

theorem IsMax.L_mul {ι : Type} {s : ι → EReal} {m : EReal} (h : IsMax s m) : IsMax (fun j => L * s j) (L * m) :=
  ⟨fun j => L_mul_mono (h.1 j), h.2.elim fun j hj => ⟨j, by rw [← hj]⟩⟩

end Cert.Row

end
-- ==== Proof.RowCodes.lean ====
/- The two ways of making a row of codes agree: the kernel's (base-2 softmax, reciprocal folded into the scale, exponent
   by bisection) and the reference's (softmax, its row maximum, exponent by a logarithm). -/
module

public import proofs.«01_k».proof.Proof.Row

@[expose] public section

noncomputable section

namespace Cert.Row

open Idealize.ShloMosaic

variable {ι : Type} [Fintype ι]

/-- The exponentials of a row of scores `s` whose greatest is `m`. -/
def ex (s : ι → EReal) (m : EReal) (j : ι) : EReal := Ideal.exp (s j - m)

/-- The reciprocal of their sum. -/
def rec (s : ι → EReal) (m : EReal) : EReal := Ideal.div 1 (∑ j, ex s m j)

/-- The kernel's exponent field, in place. -/
def bits (a : EReal) : BitVec 32 := bisect (a * c)
/-- The kernel's code. -/
def kcode (e a : EReal) : EReal := clip (e * (a * Ideal.ofBits .f32 (2122317824#32 - bits a)))
/-- The kernel's scale. -/
def kscale (a : EReal) : EReal := Ideal.ofBits .f32 (bits a + 8388608#32)

/-- The reference's exponent. -/
def expo (a : EReal) : EReal :=
  if Ideal.cmp .ogt a 0 = 1#1 then Ideal.liftRound Int.floor (Ideal.div (Ideal.log (a * c)) (Ideal.log ((2 : ℝ) : EReal))) + 1 else 0
/-- The reference's code. -/
def rcode (p a : EReal) : EReal := clip (p * Ideal.exp2 (0 - expo a))

/-- If the greatest score is infinite, every exponential is zero. -/
theorem ex_eq_zero {s : ι → EReal} {m : EReal} (hm : IsMax s m) (h : m = ⊤ ∨ m = ⊥) (j : ι) : ex s m j = 0 := by
  unfold ex
  rcases h with rfl | rfl
  · rw [EReal.sub_top]; rfl
  · have : s j = ⊥ := le_bot_iff.mp (hm.1 j)
    rw [this]; rfl

/-- If the greatest score is finite, the exponentials are reals in `[0, 1]` and one of them is 1. -/
theorem ex_real {s : ι → EReal} {r : ℝ} (hm : IsMax s r) :
    ∃ e : ι → ℝ, (∀ j, ex s r j = e j) ∧ (∀ j, 0 ≤ e j ∧ e j ≤ 1) ∧ ∃ j, e j = 1 := by
  have h : ∀ j, ∃ e : ℝ, ex s r j = e ∧ (0 ≤ e ∧ e ≤ 1) ∧ (s j = r → e = 1) := by
    intro j
    have hle := hm.1 j
    unfold ex
    generalize s j = x at hle
    induction x with
    | bot => exact ⟨0, by rw [EReal.bot_sub]; rfl, ⟨le_rfl, by norm_num⟩, fun h => absurd h.symm (EReal.coe_ne_bot r)⟩
    | top => exact absurd (top_le_iff.mp hle) (EReal.coe_ne_top r)
    | coe x =>
      have hx : x ≤ r := EReal.coe_le_coe_iff.mp hle
      refine ⟨Real.exp (x - r), by rw [← EReal.coe_sub]; rfl,
        ⟨(Real.exp_pos _).le, Real.exp_le_one_iff.mpr (by linarith)⟩, fun h => ?_⟩
      have : x = r := EReal.coe_injective h
      rw [this, sub_self, Real.exp_zero]
  choose e h1 h2 h3 using h
  obtain ⟨j, hj⟩ := hm.2
  exact ⟨e, h1, h2, j, h3 j hj⟩

theorem coe_sum (e : ι → ℝ) : (∑ j, (e j : EReal)) = ((∑ j, e j : ℝ) : EReal) := by
  classical
  induction (Finset.univ : Finset ι) using Finset.induction_on with
  | empty => simp
  | insert a t ha ih => rw [Finset.sum_insert ha, Finset.sum_insert ha, ih, EReal.coe_add]

theorem log_coe_pos {r : ℝ} (h : 0 < r) : Ideal.log (r : EReal) = ((Real.log r : ℝ) : EReal) := by
  show (if r ≤ 0 then (⊥ : EReal) else ((Real.log r : ℝ) : EReal)) = _
  rw [if_neg (not_le.mpr h)]

/-- For a reciprocal `a` between `1/512` and 1, the kernel's scale is a power of two, the reference's exponent is its
    exponent, and the two inverse scales agree. -/
theorem scales (a : ℝ) (hlo : 1 / 512 ≤ a) (hhi : a ≤ 1) :
    ∃ n : ℤ, expo a = ((n : ℝ) : EReal) ∧ kscale a = (((2 : ℝ) ^ n : ℝ) : EReal)
      ∧ Ideal.ofBits .f32 (2122317824#32 - bits a) = (((2 : ℝ) ^ (-n) : ℝ) : EReal) := by
  set x : ℝ := a * (9586981 * (2 : ℝ) ^ (-32 : ℤ)) with hx
  have hac : (a : EReal) * c = (x : EReal) := by rw [c_eq, ← EReal.coe_mul]
  have hxlo : (2 : ℝ) ^ (-18 : ℤ) ≤ x := by
    rw [hx]; norm_num at *; linarith
  have hxhi : x < (2 : ℝ) ^ (-8 : ℤ) := by
    rw [hx]; norm_num at *; linarith
  have hx0 : 0 < x := lt_of_lt_of_le (by positivity) hxlo
  have hz : ∀ k : ℤ, (2 : ℝ) ^ k = Real.exp (k * Real.log 2) := fun k => by
    rw [← Real.rpow_intCast, Real.rpow_def_of_pos (by norm_num), mul_comm]
  have hl2 : 0 < Real.log 2 := Real.log_pos (by norm_num)
  obtain ⟨n, hn⟩ : ∃ n : ℤ, ⌊Real.log x * (1 / Real.log 2)⌋ = n := ⟨_, rfl⟩
  have hl : Real.log x * (1 / Real.log 2) = Real.log x / Real.log 2 := by ring
  have h1 : (2 : ℝ) ^ n ≤ x := by
    rw [hz]; refine le_of_le_of_eq ?_ (Real.exp_log hx0)
    rw [Real.exp_le_exp, ← le_div_iff₀ hl2, ← hl, ← hn]
    exact Int.floor_le _
  have h2 : x < (2 : ℝ) ^ (n + 1) := by
    rw [hz]; refine lt_of_eq_of_lt (Real.exp_log hx0).symm ?_
    rw [Real.exp_lt_exp, ← div_lt_iff₀ hl2, ← hl, ← hn]
    push_cast
    exact Int.lt_floor_add_one _
  have hnlo : -18 ≤ n := by
    by_contra hc
    have : (2 : ℝ) ^ (n + 1) ≤ (2 : ℝ) ^ (-18 : ℤ) := zpow_le_zpow_right₀ (by norm_num) (by omega)
    linarith
  have hnhi : n ≤ -9 := by
    by_contra hc
    have : (2 : ℝ) ^ (-8 : ℤ) ≤ (2 : ℝ) ^ n := zpow_le_zpow_right₀ (by norm_num) (by omega)
    linarith
  obtain ⟨E, hE⟩ : ∃ E : ℕ, (E : ℤ) = n + 127 := ⟨(n + 127).toNat, by omega⟩
  have hb : bits a = w E := by
    unfold bits
    rw [hac]
    refine bisect_eq x E (by omega) (by omega) ?_ ?_
    · rw [hE]; convert h1 using 2; ring
    · rw [hE]; convert h2 using 2; ring
  refine ⟨n + 1, ?_, ?_, ?_⟩
  · have hpos : (0 : EReal) < (a : EReal) := by exact_mod_cast (by linarith : (0 : ℝ) < a)
    have hc : Ideal.cmp .ogt (a : EReal) 0 = 1#1 := by
      show BitVec.ofBool (decide _) = 1#1
      rw [decide_eq_true hpos]; rfl
    unfold expo
    rw [if_pos hc, hac, log_coe_pos hx0, log_coe_pos (by norm_num : (0 : ℝ) < 2),
      Ideal.div_coe (Real.log_pos (by norm_num)).ne', ← EReal.coe_mul]
    show ((⌊Real.log x * (1 / Real.log 2)⌋ : ℝ) : EReal) + 1 = _
    rw [hn]
    push_cast
    rfl
  · unfold kscale
    rw [hb, show (8388608#32 : BitVec 32) = w 1 from rfl, w_add, ofBits_w _ (by omega) (by omega)]
    congr 2; push_cast; omega
  · rw [hb, show (2122317824#32 : BitVec 32) = w 253 from rfl, w_sub _ _ (by omega), ofBits_w _ (by omega) (by omega)]
    congr 2; omega

/-- The codes agree, and the scales agree unless every code is zero. -/
theorem codes (hcard : Fintype.card ι ≤ 512) {s : ι → EReal} {m A : EReal} (hm : IsMax s m)
    (hA : IsMax (fun j => ex s m j * rec s m) A) :
    (∀ j, kcode (ex s m j) (rec s m) = rcode (ex s m j * rec s m) A)
      ∧ (kscale (rec s m) = Ideal.exp2 (expo A) ∨ ∀ j, rcode (ex s m j * rec s m) A = 0) := by
  by_cases hinf : m = ⊤ ∨ m = ⊥
  · have h0 := ex_eq_zero hm hinf
    have hr : ∀ j, rcode (ex s m j * rec s m) A = 0 := fun j => by
      rw [h0, zero_mul]; unfold rcode; rw [zero_mul, clip_zero]
    refine ⟨fun j => ?_, .inr hr⟩
    rw [hr, h0]; unfold kcode; rw [zero_mul, clip_zero]
  · rw [not_or] at hinf
    lift m to ℝ using hinf
    obtain ⟨e, he, h01, j1, hj1⟩ := ex_real hm
    have hsum : ∑ j, ex s m j = ((∑ j, e j : ℝ) : EReal) := by
      rw [← coe_sum]; exact Finset.sum_congr rfl fun j _ => he j
    have hl1 : 1 ≤ ∑ j, e j := hj1 ▸ Finset.single_le_sum (fun j _ => (h01 j).1) (Finset.mem_univ j1)
    have hl2 : ∑ j, e j ≤ 512 := by
      refine (Finset.sum_le_sum (g := fun _ => (1 : ℝ)) fun j _ => (h01 j).2).trans ?_
      simp only [Finset.sum_const, nsmul_eq_mul, mul_one, Finset.card_univ]
      exact_mod_cast hcard
    have hrec : rec s m = ((1 / ∑ j, e j : ℝ) : EReal) := by
      unfold rec
      rw [hsum, Ideal.div_coe (by linarith), one_mul]
    generalize hl : ∑ j, e j = l at hl1 hl2 hrec
    have ha1 : 1 / 512 ≤ 1 / l := one_div_le_one_div_of_le (by linarith) hl2
    have ha2 : 1 / l ≤ 1 := by rw [div_le_one (by linarith)]; exact hl1
    have hAa : A = rec s m := by
      refine hA.unique ⟨fun j => ?_, j1, ?_⟩
      · show ex s m j * rec s m ≤ _
        rw [he, hrec, ← EReal.coe_mul, EReal.coe_le_coe_iff]
        have := (h01 j).2
        nlinarith [one_div_pos.mpr (by linarith : 0 < l)]
      · show ex s m j1 * rec s m = _
        rw [he, hj1, EReal.coe_one, one_mul]
    obtain ⟨n, hn1, hn2, hn3⟩ := scales _ ha1 ha2
    rw [hAa, hrec]
    refine ⟨fun j => ?_, .inl ?_⟩
    · unfold kcode rcode
      rw [hn3, hn1, he, zero_sub, ← EReal.coe_neg, Ideal.exp2_coe]
      congr 1
      simp only [← EReal.coe_mul]
      congr 1
      have : Real.rpow 2 (-(n : ℝ)) = (2 : ℝ) ^ (-n) := by
        rw [← Int.cast_neg]; exact Real.rpow_intCast 2 (-n)
      rw [this]; ring
    · rw [hn1, hn2, Ideal.exp2_coe]
      congr 1
      exact (Real.rpow_intCast 2 n).symm

/-- The kernel's exponentials of scores in base 2 are the reference's. -/
theorem ex_base2 {s t : ι → EReal} {m n : EReal} (hst : ∀ j, t j = L * s j) (hm : IsMax s m) (hn : IsMax t n) (j : ι) :
    Ideal.exp2 (t j - n) = ex s m j := by
  have hn' : n = L * m := hn.unique (by
    have := hm.L_mul
    rwa [show (fun j => L * s j) = t from funext fun j => (hst j).symm] at this)
  rw [hn', hst, ← L_mul_sub, exp2_L_mul]; rfl

end Cert.Row

end
-- ==== Proof.Unit.lean ====
module

public import proofs.«01_k».proof.Proof.Gen.KernelIdeal.Skeleton
public import Idealize.ShloMosaic.Lib.Pointwise
public import proofs.«01_k».proof.Proof.RowCodes
public import Idealize.ShloMosaic.PureOps.IdealRules

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- One unit: 128 query rows of one head, from its loads to its output tile. -/
def unit (qs ks : Elt F .f32) (q : Vec F S1x1x128x128 .fp8e4m3) (k : Vec F S1x1x512x128 .fp8e4m3) (toep : Vec F S1x64x8x128 .f32)
    (mask : Vec F S1x1x512x128 .f32) (v : Vec F S1x1x512x128 .fp8e4m3) (vs : Elt F .f32) : FVec F S1x128x128 .bf16 :=
  k0_pay43 (k0_pay38 (k0_pay37 qs ks q k toep mask)) (k0_pay39 (k0_pay37 qs ks q k toep mask)) (k0_pay40 (k0_pay37 qs ks q k toep mask))
    (k0_pay41 (k0_pay37 qs ks q k toep mask)) k0_pay42 v vs

/-- The output tile from the clipped codes and the columns' scales. -/
def outTile (w : FVec F S512x128 .f32) (sc : FVec F S1x128 .f32) (v : Vec F S1x1x512x128 .fp8e4m3) (vs : Elt F .f32) : FVec F S1x128x128 .bf16 :=
  shapeCast S1x128x128 (truncf .bf16 (transpose S128x128 [1, 0]
    (mulf (matmul dot_S512x128_S512x128_S128x128_0_0_1_1_n_n none (shapeCast S512x128 v shapeCasts_S1x1x512x128_S512x128)
        (truncf .fp8e4m3 w bitsLt_fp8e4m3_f32) (constant S128x128 .f32 0x00000000#32))
      (broadcastTo S128x128 (mulf sc (broadcast S1x128 vs)) broadcasts_S1x128_S128x128))
    transposes_S128x128_p1_0_S128x128) bitsLt_bf16_f32) shapeCasts_S128x128_S1x128x128

/-- The clipped codes. -/
def codeTile (e : FVec F S512x128 .f32) (a : FVec F S1x128 .f32) (b : FVec F S1x128 .f32) : FVec F S512x128 .f32 :=
  minimumf (broadcast S512x128 (Scalar.ofBits .f32 0x43E00000#32)) (maximumf (broadcast S512x128 (Scalar.ofBits .f32 0xC3E00000#32))
    (mulf e (broadcastTo S512x128 (mulf a b) broadcasts_S1x128_S512x128)))

/-- The last step of the search for the exponent word. -/
def lastWord (b : FVec F S1x128 .f32) (c : IVec S1x128 32) : IVec S1x128 32 :=
  select (cmpf .ole (bitcastToFloat .f32 (addi c (broadcast S1x128 8388608#32))) b) (addi c (broadcast S1x128 8388608#32)) c

theorem pay43_eq (e : FVec F S512x128 .f32) (a b : FVec F S1x128 .f32) (c : IVec S1x128 32) (v : Vec F S1x1x512x128 .fp8e4m3) (vs : Elt F .f32) :
    k0_pay43 e a b c k0_pay42 v vs = outTile (codeTile e a (bitcastToFloat .f32 (subi (broadcast S1x128 2122317824#32) (lastWord b c))))
      (bitcastToFloat .f32 (addi (lastWord b c) (broadcast S1x128 8388608#32))) v vs := rfl

theorem outTile_apply (w : FVec Ideal S512x128 .f32) (sc : FVec Ideal S1x128 .f32) (v : Vec Ideal S1x1x512x128 .fp8e4m3) (vs : Elt Ideal .f32) (l h : Fin 128) :
    outTile (F := Ideal) w sc v vs (ix3 0 l h) = (∑ j : Fin 512, v (ix4 0 0 j h) * w (ix2 j l)) * (sc (ix2 0 l) * vs) := by
  pointwise [outTile]

theorem codeTile_apply (e : FVec Ideal S512x128 .f32) (a b : FVec Ideal S1x128 .f32) (j : Fin 512) (l : Fin 128) :
    codeTile (F := Ideal) e a b (ix2 j l) = Row.clip (e (ix2 j l) * (a (ix2 0 l) * b (ix2 0 l))) := by
  pointwise [codeTile, Row.clip]

/-- A word read as a float. -/
theorem word_apply (x : IVec S1x128 32) (i) : bitcastToFloat (F := Ideal) .f32 x i = Ideal.ofBits .f32 (x i) := rfl

/-- One step of the search over a whole row. -/
abbrev vstep (b : FVec F S1x128 .f32) (c : IVec S1x128 32) (k : BitVec 32) : IVec S1x128 32 :=
  select (cmpf .ole (bitcastToFloat .f32 (addi c (broadcast S1x128 k))) b) (addi c (broadcast S1x128 k)) c

theorem vstep_apply (b : FVec Ideal S1x128 .f32) (c : IVec S1x128 32) (k : BitVec 32) (i) :
    vstep (F := Ideal) b c k i = Row.step (b i) (c i) k := rfl

theorem lastWord_eq (b : FVec F S1x128 .f32) (c : IVec S1x128 32) : lastWord b c = vstep b c 8388608#32 := rfl

theorem pay41_eq (s : FVec F S512x128 .f32) : k0_pay41 s =
    vstep (k0_pay40 s) (vstep (k0_pay40 s) (vstep (k0_pay40 s) (vstep (k0_pay40 s) (vstep (k0_pay40 s) (vstep (k0_pay40 s)
      (vstep (k0_pay40 s) (broadcast S1x128 0#32) 1073741824#32) 536870912#32) 268435456#32) 134217728#32) 67108864#32) 33554432#32) 16777216#32 := by
  unfold k0_pay41
  rfl

/-- All steps of the search: the word the bisection finds. -/
theorem lastWord_apply (s : FVec Ideal S512x128 .f32) (l : Fin 128) :
    lastWord (F := Ideal) (k0_pay40 s) (k0_pay41 s) (ix2 0 l) = Row.bisect (k0_pay40 (F := Ideal) s (ix2 0 l)) := by
  rw [pay41_eq, lastWord_eq]
  generalize k0_pay40 (F := Ideal) s = b
  rw [vstep_apply, vstep_apply, vstep_apply, vstep_apply, vstep_apply, vstep_apply, vstep_apply, vstep_apply]
  have e : broadcast S1x128 (0#32) (ix2 0 l) = 0#32 := rfl
  rw [e]
  unfold Row.bisect
  with_reducible rfl

theorem pay37_apply (qs ks : Elt Ideal .f32) (q : Vec Ideal S1x1x128x128 .fp8e4m3) (k : Vec Ideal S1x1x512x128 .fp8e4m3) (toep : Vec Ideal S1x64x8x128 .f32)
    (mask : Vec Ideal S1x1x512x128 .f32) (j : Fin 512) (l : Fin 128) : k0_pay37 (F := Ideal) qs ks q k toep mask (ix2 j l)
      = (∑ x : Fin 128, k (ix4 0 0 j x) * q (ix4 0 0 l x)) * (qs * ks * Row.L)
        + toep (ix4 0 ⟨j.val / 8, by omega⟩ ⟨j.val % 8, by omega⟩ l) + mask (ix4 0 0 j l) := by
  rw [← IdealRules.named_const.ideal_named_scalar (φ := .f32) κ "log2e" 0x3FB8AA3B#32 Row.L rfl]
  pointwise [k0_pay37, k0_pay36]

/-- The greatest element of a row, as the reductions find it. -/
def top (s : Fin 512 → EReal) : EReal := Finset.fold max (Ideal.ofBits .f32 0xFF800000#32) s Finset.univ

/-- A row of base-2 exponentials. -/
def ex2 (s : Fin 512 → EReal) (j : Fin 512) : EReal := Ideal.exp2 (s j - top s)

/-- A row's value: the codes summed against the values, then scaled. -/
def unitVal (s v : Fin 512 → EReal) (vs : EReal) : EReal :=
  (∑ j, v j * Row.kcode (ex2 s j) (Ideal.div 1 (∑ j, ex2 s j))) * (Row.kscale (Ideal.div 1 (∑ j, ex2 s j)) * vs)

theorem pay38_apply (s : FVec Ideal S512x128 .f32) (j : Fin 512) (l : Fin 128) : k0_pay38 (F := Ideal) s (ix2 j l) = ex2 (fun j => s (ix2 j l)) j := by
  pointwise [k0_pay38, ex2, top]
  rfl

theorem pay39_apply (s : FVec Ideal S512x128 .f32) (l : Fin 128) : k0_pay39 (F := Ideal) s (ix2 0 l) = Ideal.div 1 (∑ j, ex2 (fun j => s (ix2 j l)) j) := by
  rw [show (∑ j, ex2 (fun j => s (ix2 j l)) j) = ∑ j, k0_pay38 (F := Ideal) s (ix2 j l) from Finset.sum_congr rfl fun j _ => (pay38_apply s j l).symm]
  pointwise [k0_pay39]

theorem pay40_apply (s : FVec Ideal S512x128 .f32) (l : Fin 128) : k0_pay40 (F := Ideal) s (ix2 0 l) = Ideal.div 1 (∑ j, ex2 (fun j => s (ix2 j l)) j) * Row.c := by
  rw [← pay39_apply]
  pointwise [k0_pay40, Row.c]

/-- A unit read at an index. -/
theorem unit_apply (qs ks : Elt Ideal .f32) (q : Vec Ideal S1x1x128x128 .fp8e4m3) (k : Vec Ideal S1x1x512x128 .fp8e4m3) (toep : Vec Ideal S1x64x8x128 .f32)
    (mask : Vec Ideal S1x1x512x128 .f32) (v : Vec Ideal S1x1x512x128 .fp8e4m3) (vs : Elt Ideal .f32) (l h : Fin 128) :
    unit (F := Ideal) qs ks q k toep mask v vs (ix3 0 l h)
      = unitVal (fun j => (∑ x : Fin 128, k (ix4 0 0 j x) * q (ix4 0 0 l x)) * (qs * ks * Row.L)
          + toep (ix4 0 ⟨j.val / 8, by omega⟩ ⟨j.val % 8, by omega⟩ l) + mask (ix4 0 0 j l)) (fun j => v (ix4 0 0 j h)) vs := by
  have hrow : (fun j : Fin 512 => (∑ x : Fin 128, k (ix4 0 0 j x) * q (ix4 0 0 l x)) * (qs * ks * Row.L)
          + toep (ix4 0 ⟨j.val / 8, by omega⟩ ⟨j.val % 8, by omega⟩ l) + mask (ix4 0 0 j l)) = fun j => k0_pay37 (F := Ideal) qs ks q k toep mask (ix2 j l) :=
    funext fun j => (pay37_apply qs ks q k toep mask j l).symm
  rw [hrow]
  unfold unit
  generalize k0_pay37 (F := Ideal) qs ks q k toep mask = s
  rw [pay43_eq, outTile_apply]
  have hw : lastWord (F := Ideal) (k0_pay40 s) (k0_pay41 s) (ix2 0 l) = Row.bits (Ideal.div 1 (∑ j, ex2 (fun j => s (ix2 j l)) j)) := by
    rw [lastWord_apply, pay40_apply]; rfl
  simp only [codeTile_apply, word_apply, pay38_apply, pay39_apply]
  rw [show subi (broadcast S1x128 2122317824#32) (lastWord (F := Ideal) (k0_pay40 s) (k0_pay41 s)) (ix2 0 l) = 2122317824#32 - lastWord (F := Ideal) (k0_pay40 s) (k0_pay41 s) (ix2 0 l) from rfl,
    show addi (lastWord (F := Ideal) (k0_pay40 s) (k0_pay41 s)) (broadcast S1x128 8388608#32) (ix2 0 l) = lastWord (F := Ideal) (k0_pay40 s) (k0_pay41 s) (ix2 0 l) + 8388608#32 from rfl, hw]
  rfl

end Cert.KernelIdeal.Hand
end
-- ==== Proof.Tiles.lean ====
module

public import proofs.«01_k».proof.Proof.Tail
public import proofs.«01_k».proof.Proof.Unit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The unit at given load offsets: head slot `g`, key tile base `q0`, table base `n0`. -/
def unitAt (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) (x0 x1 x2 : Vec F S4x28 .f32) (x3 x4 x5 : Vec F S1x4x512x128 .fp8e4m3) (x11 : Vec F S4x112x8x128 .f32) (x12 : Vec F S4x4x512x128 .f32)
    (oS : Fin 2 → ℕ) (hS : ∀ a, oS a + S1x1.size a ≤ S4x28.size a) (oM : Fin 4 → ℕ) (hM : ∀ a, oM a + S1x1x512x128.size a ≤ S4x4x512x128.size a)
    (oQ : Fin 4 → ℕ) (hQ : ∀ a, oQ a + S1x1x128x128.size a ≤ S1x4x512x128.size a) (oK : Fin 4 → ℕ) (hK : ∀ a, oK a + S1x1x512x128.size a ≤ S1x4x512x128.size a)
    (oT : Fin 4 → ℕ) (hT : ∀ a, oT a + S1x64x8x128.size a ≤ S4x112x8x128.size a) : FVec F S1x128x128 .bf16 :=
  unit (View.readAt (Elt F) arg2.view (Rect.unit (s := S4x28) oS S1x1.size hS).toLoadRect (harg2.unread x0) (Shape.Idx.first (s := S1x1) (by decide)))
    (View.readAt (Elt F) arg3.view (Rect.unit (s := S4x28) oS S1x1.size hS).toLoadRect (harg3.unread x1) (Shape.Idx.first (s := S1x1) (by decide)))
    (View.readAt (Elt F) arg5.view (Rect.unit (s := S1x4x512x128) oQ S1x1x128x128.size hQ).toLoadRect (harg5.unread x3))
    (View.readAt (Elt F) arg6.view (Rect.unit (s := S1x4x512x128) oK S1x1x512x128.size hK).toLoadRect (harg6.unread x4))
    (View.readAt (Elt F) arg11.view (Rect.unit (s := S4x112x8x128) oT S1x64x8x128.size hT).toLoadRect (harg11.unread x11))
    (View.readAt (Elt F) arg12.view (Rect.unit (s := S4x4x512x128) oM S1x1x512x128.size hM).toLoadRect (harg12.unread x12))
    (View.readAt (Elt F) arg7.view (Rect.unit (s := S1x4x512x128) oK S1x1x512x128.size hK).toLoadRect (harg7.unread x5))
    (View.readAt (Elt F) arg4.view (Rect.unit (s := S4x28) oS S1x1.size hS).toLoadRect (harg4.unread x2) (Shape.Idx.first (s := S1x1) (by decide)))

/-- The pieces one point stores: one unit per head slot and query tile. -/
theorem tail_list (c : Dev nD) (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) (x0 x1 x2 : Vec F S4x28 .f32) (x3 x4 x5 : Vec F S1x4x512x128 .fp8e4m3) (x11 : Vec F S4x112x8x128 .f32) (x12 : Vec F S4x4x512x128 .f32) :
    (tailRun (F := F) c i arg2 harg2 arg3 harg3 arg4 harg4 arg5 harg5 arg6 harg6 arg7 harg7 arg8 harg8 arg9 harg9 arg10 harg10 arg11 harg11 arg12 harg12 x0 x1 x2 x3 x4 x5 x11 x12).1 = [⟨Rect.unit (s := S1x512x512) ![0, 384, 384] S1x128x128.size inb_S1x512x512_S1x128x128_0_384_384, unitAt arg2 harg2 arg3 harg3 arg4 harg4 arg5 harg5 arg6 harg6 arg7 harg7 arg8 harg8 arg9 harg9 arg10 harg10 arg11 harg11 arg12 harg12 x0 x1 x2 x3 x4 x5 x11 x12 (k0_off22 i 3#32) (k0_off22_inb i 3) (k0_off26 i) (k0_off26_inb i) ![0, 3, 384, 0] inb_S1x4x512x128_S1x1x128x128_0_3_384_0 ![0, 3, 0, 0] inb_S1x4x512x128_S1x1x512x128_0_3_0_0 ![3, 0, 0, 0] inb_S4x112x8x128_S1x64x8x128_3_0_0_0⟩,
      ⟨Rect.unit (s := S1x512x512) ![0, 256, 384] S1x128x128.size inb_S1x512x512_S1x128x128_0_256_384, unitAt arg2 harg2 arg3 harg3 arg4 harg4 arg5 harg5 arg6 harg6 arg7 harg7 arg8 harg8 arg9 harg9 arg10 harg10 arg11 harg11 arg12 harg12 x0 x1 x2 x3 x4 x5 x11 x12 (k0_off22 i 3#32) (k0_off22_inb i 3) (k0_off25 i) (k0_off25_inb i) ![0, 3, 256, 0] inb_S1x4x512x128_S1x1x128x128_0_3_256_0 ![0, 3, 0, 0] inb_S1x4x512x128_S1x1x512x128_0_3_0_0 ![3, 16, 0, 0] inb_S4x112x8x128_S1x64x8x128_3_16_0_0⟩,
      ⟨Rect.unit (s := S1x512x512) ![0, 128, 384] S1x128x128.size inb_S1x512x512_S1x128x128_0_128_384, unitAt arg2 harg2 arg3 harg3 arg4 harg4 arg5 harg5 arg6 harg6 arg7 harg7 arg8 harg8 arg9 harg9 arg10 harg10 arg11 harg11 arg12 harg12 x0 x1 x2 x3 x4 x5 x11 x12 (k0_off22 i 3#32) (k0_off22_inb i 3) (k0_off24 i) (k0_off24_inb i) ![0, 3, 128, 0] inb_S1x4x512x128_S1x1x128x128_0_3_128_0 ![0, 3, 0, 0] inb_S1x4x512x128_S1x1x512x128_0_3_0_0 ![3, 32, 0, 0] inb_S4x112x8x128_S1x64x8x128_3_32_0_0⟩,
      ⟨Rect.unit (s := S1x512x512) ![0, 0, 384] S1x128x128.size inb_S1x512x512_S1x128x128_0_0_384, unitAt arg2 harg2 arg3 harg3 arg4 harg4 arg5 harg5 arg6 harg6 arg7 harg7 arg8 harg8 arg9 harg9 arg10 harg10 arg11 harg11 arg12 harg12 x0 x1 x2 x3 x4 x5 x11 x12 (k0_off22 i 3#32) (k0_off22_inb i 3) (k0_off23 i) (k0_off23_inb i) ![0, 3, 0, 0] inb_S1x4x512x128_S1x1x128x128_0_3_0_0 ![0, 3, 0, 0] inb_S1x4x512x128_S1x1x512x128_0_3_0_0 ![3, 48, 0, 0] inb_S4x112x8x128_S1x64x8x128_3_48_0_0⟩,
      ⟨Rect.unit (s := S1x512x512) ![0, 384, 256] S1x128x128.size inb_S1x512x512_S1x128x128_0_384_256, unitAt arg2 harg2 arg3 harg3 arg4 harg4 arg5 harg5 arg6 harg6 arg7 harg7 arg8 harg8 arg9 harg9 arg10 harg10 arg11 harg11 arg12 harg12 x0 x1 x2 x3 x4 x5 x11 x12 (k0_off22 i 2#32) (k0_off22_inb i 2) (k0_off26 i) (k0_off26_inb i) ![0, 2, 384, 0] inb_S1x4x512x128_S1x1x128x128_0_2_384_0 ![0, 2, 0, 0] inb_S1x4x512x128_S1x1x512x128_0_2_0_0 ![2, 0, 0, 0] inb_S4x112x8x128_S1x64x8x128_2_0_0_0⟩,
      ⟨Rect.unit (s := S1x512x512) ![0, 256, 256] S1x128x128.size inb_S1x512x512_S1x128x128_0_256_256, unitAt arg2 harg2 arg3 harg3 arg4 harg4 arg5 harg5 arg6 harg6 arg7 harg7 arg8 harg8 arg9 harg9 arg10 harg10 arg11 harg11 arg12 harg12 x0 x1 x2 x3 x4 x5 x11 x12 (k0_off22 i 2#32) (k0_off22_inb i 2) (k0_off25 i) (k0_off25_inb i) ![0, 2, 256, 0] inb_S1x4x512x128_S1x1x128x128_0_2_256_0 ![0, 2, 0, 0] inb_S1x4x512x128_S1x1x512x128_0_2_0_0 ![2, 16, 0, 0] inb_S4x112x8x128_S1x64x8x128_2_16_0_0⟩,
      ⟨Rect.unit (s := S1x512x512) ![0, 128, 256] S1x128x128.size inb_S1x512x512_S1x128x128_0_128_256, unitAt arg2 harg2 arg3 harg3 arg4 harg4 arg5 harg5 arg6 harg6 arg7 harg7 arg8 harg8 arg9 harg9 arg10 harg10 arg11 harg11 arg12 harg12 x0 x1 x2 x3 x4 x5 x11 x12 (k0_off22 i 2#32) (k0_off22_inb i 2) (k0_off24 i) (k0_off24_inb i) ![0, 2, 128, 0] inb_S1x4x512x128_S1x1x128x128_0_2_128_0 ![0, 2, 0, 0] inb_S1x4x512x128_S1x1x512x128_0_2_0_0 ![2, 32, 0, 0] inb_S4x112x8x128_S1x64x8x128_2_32_0_0⟩,
      ⟨Rect.unit (s := S1x512x512) ![0, 0, 256] S1x128x128.size inb_S1x512x512_S1x128x128_0_0_256, unitAt arg2 harg2 arg3 harg3 arg4 harg4 arg5 harg5 arg6 harg6 arg7 harg7 arg8 harg8 arg9 harg9 arg10 harg10 arg11 harg11 arg12 harg12 x0 x1 x2 x3 x4 x5 x11 x12 (k0_off22 i 2#32) (k0_off22_inb i 2) (k0_off23 i) (k0_off23_inb i) ![0, 2, 0, 0] inb_S1x4x512x128_S1x1x128x128_0_2_0_0 ![0, 2, 0, 0] inb_S1x4x512x128_S1x1x512x128_0_2_0_0 ![2, 48, 0, 0] inb_S4x112x8x128_S1x64x8x128_2_48_0_0⟩,
      ⟨Rect.unit (s := S1x512x512) ![0, 384, 128] S1x128x128.size inb_S1x512x512_S1x128x128_0_384_128, unitAt arg2 harg2 arg3 harg3 arg4 harg4 arg5 harg5 arg6 harg6 arg7 harg7 arg8 harg8 arg9 harg9 arg10 harg10 arg11 harg11 arg12 harg12 x0 x1 x2 x3 x4 x5 x11 x12 (k0_off22 i 1#32) (k0_off22_inb i 1) (k0_off26 i) (k0_off26_inb i) ![0, 1, 384, 0] inb_S1x4x512x128_S1x1x128x128_0_1_384_0 ![0, 1, 0, 0] inb_S1x4x512x128_S1x1x512x128_0_1_0_0 ![1, 0, 0, 0] inb_S4x112x8x128_S1x64x8x128_1_0_0_0⟩,
      ⟨Rect.unit (s := S1x512x512) ![0, 256, 128] S1x128x128.size inb_S1x512x512_S1x128x128_0_256_128, unitAt arg2 harg2 arg3 harg3 arg4 harg4 arg5 harg5 arg6 harg6 arg7 harg7 arg8 harg8 arg9 harg9 arg10 harg10 arg11 harg11 arg12 harg12 x0 x1 x2 x3 x4 x5 x11 x12 (k0_off22 i 1#32) (k0_off22_inb i 1) (k0_off25 i) (k0_off25_inb i) ![0, 1, 256, 0] inb_S1x4x512x128_S1x1x128x128_0_1_256_0 ![0, 1, 0, 0] inb_S1x4x512x128_S1x1x512x128_0_1_0_0 ![1, 16, 0, 0] inb_S4x112x8x128_S1x64x8x128_1_16_0_0⟩,
      ⟨Rect.unit (s := S1x512x512) ![0, 128, 128] S1x128x128.size inb_S1x512x512_S1x128x128_0_128_128, unitAt arg2 harg2 arg3 harg3 arg4 harg4 arg5 harg5 arg6 harg6 arg7 harg7 arg8 harg8 arg9 harg9 arg10 harg10 arg11 harg11 arg12 harg12 x0 x1 x2 x3 x4 x5 x11 x12 (k0_off22 i 1#32) (k0_off22_inb i 1) (k0_off24 i) (k0_off24_inb i) ![0, 1, 128, 0] inb_S1x4x512x128_S1x1x128x128_0_1_128_0 ![0, 1, 0, 0] inb_S1x4x512x128_S1x1x512x128_0_1_0_0 ![1, 32, 0, 0] inb_S4x112x8x128_S1x64x8x128_1_32_0_0⟩,
      ⟨Rect.unit (s := S1x512x512) ![0, 0, 128] S1x128x128.size inb_S1x512x512_S1x128x128_0_0_128, unitAt arg2 harg2 arg3 harg3 arg4 harg4 arg5 harg5 arg6 harg6 arg7 harg7 arg8 harg8 arg9 harg9 arg10 harg10 arg11 harg11 arg12 harg12 x0 x1 x2 x3 x4 x5 x11 x12 (k0_off22 i 1#32) (k0_off22_inb i 1) (k0_off23 i) (k0_off23_inb i) ![0, 1, 0, 0] inb_S1x4x512x128_S1x1x128x128_0_1_0_0 ![0, 1, 0, 0] inb_S1x4x512x128_S1x1x512x128_0_1_0_0 ![1, 48, 0, 0] inb_S4x112x8x128_S1x64x8x128_1_48_0_0⟩,
      ⟨Rect.unit (s := S1x512x512) ![0, 384, 0] S1x128x128.size inb_S1x512x512_S1x128x128_0_384_0, unitAt arg2 harg2 arg3 harg3 arg4 harg4 arg5 harg5 arg6 harg6 arg7 harg7 arg8 harg8 arg9 harg9 arg10 harg10 arg11 harg11 arg12 harg12 x0 x1 x2 x3 x4 x5 x11 x12 (k0_off22 i 0#32) (k0_off22_inb i 0) (k0_off26 i) (k0_off26_inb i) ![0, 0, 384, 0] inb_S1x4x512x128_S1x1x128x128_0_0_384_0 ![0, 0, 0, 0] inb_S1x4x512x128_S1x1x512x128_0_0_0_0 ![0, 0, 0, 0] inb_S4x112x8x128_S1x64x8x128_0_0_0_0⟩,
      ⟨Rect.unit (s := S1x512x512) ![0, 256, 0] S1x128x128.size inb_S1x512x512_S1x128x128_0_256_0, unitAt arg2 harg2 arg3 harg3 arg4 harg4 arg5 harg5 arg6 harg6 arg7 harg7 arg8 harg8 arg9 harg9 arg10 harg10 arg11 harg11 arg12 harg12 x0 x1 x2 x3 x4 x5 x11 x12 (k0_off22 i 0#32) (k0_off22_inb i 0) (k0_off25 i) (k0_off25_inb i) ![0, 0, 256, 0] inb_S1x4x512x128_S1x1x128x128_0_0_256_0 ![0, 0, 0, 0] inb_S1x4x512x128_S1x1x512x128_0_0_0_0 ![0, 16, 0, 0] inb_S4x112x8x128_S1x64x8x128_0_16_0_0⟩,
      ⟨Rect.unit (s := S1x512x512) ![0, 128, 0] S1x128x128.size inb_S1x512x512_S1x128x128_0_128_0, unitAt arg2 harg2 arg3 harg3 arg4 harg4 arg5 harg5 arg6 harg6 arg7 harg7 arg8 harg8 arg9 harg9 arg10 harg10 arg11 harg11 arg12 harg12 x0 x1 x2 x3 x4 x5 x11 x12 (k0_off22 i 0#32) (k0_off22_inb i 0) (k0_off24 i) (k0_off24_inb i) ![0, 0, 128, 0] inb_S1x4x512x128_S1x1x128x128_0_0_128_0 ![0, 0, 0, 0] inb_S1x4x512x128_S1x1x512x128_0_0_0_0 ![0, 32, 0, 0] inb_S4x112x8x128_S1x64x8x128_0_32_0_0⟩,
      ⟨Rect.unit (s := S1x512x512) ![0, 0, 0] S1x128x128.size inb_S1x512x512_S1x128x128_0_0_0, unitAt arg2 harg2 arg3 harg3 arg4 harg4 arg5 harg5 arg6 harg6 arg7 harg7 arg8 harg8 arg9 harg9 arg10 harg10 arg11 harg11 arg12 harg12 x0 x1 x2 x3 x4 x5 x11 x12 (k0_off22 i 0#32) (k0_off22_inb i 0) (k0_off23 i) (k0_off23_inb i) ![0, 0, 0, 0] inb_S1x4x512x128_S1x1x128x128_0_0_0_0 ![0, 0, 0, 0] inb_S1x4x512x128_S1x1x512x128_0_0_0_0 ![0, 48, 0, 0] inb_S4x112x8x128_S1x64x8x128_0_48_0_0⟩] := by
  unfold tailRun
  dsimp only
  refine congrArg₂ List.cons (congrArg (Sigma.mk _) (?_)) (
    congrArg₂ List.cons (congrArg (Sigma.mk _) (?_)) (
    congrArg₂ List.cons (congrArg (Sigma.mk _) (?_)) (
    congrArg₂ List.cons (congrArg (Sigma.mk _) (?_)) (
    congrArg₂ List.cons (congrArg (Sigma.mk _) (?_)) (
    congrArg₂ List.cons (congrArg (Sigma.mk _) (?_)) (
    congrArg₂ List.cons (congrArg (Sigma.mk _) (?_)) (
    congrArg₂ List.cons (congrArg (Sigma.mk _) (?_)) (
    congrArg₂ List.cons (congrArg (Sigma.mk _) (?_)) (
    congrArg₂ List.cons (congrArg (Sigma.mk _) (?_)) (
    congrArg₂ List.cons (congrArg (Sigma.mk _) (?_)) (
    congrArg₂ List.cons (congrArg (Sigma.mk _) (?_)) (
    congrArg₂ List.cons (congrArg (Sigma.mk _) (?_)) (
    congrArg₂ List.cons (congrArg (Sigma.mk _) (?_)) (
    congrArg₂ List.cons (congrArg (Sigma.mk _) (?_)) (
    congrArg₂ List.cons (congrArg (Sigma.mk _) (?_)) (
    rfl))))))))))))))))
  · rfl
  · rfl
  · rfl
  · rfl
  · rfl
  · rfl
  · rfl
  · rfl
  · rfl
  · rfl
  · rfl
  · rfl
  · rfl
  · rfl
  · rfl
  · rfl

end Cert.KernelIdeal.Hand
end
-- ==== Proof.Body.lean ====
module

public import proofs.«01_k».proof.Proof.Tail

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What `arg11` holds after the first conditional: the table of diagonals rebuilt, or what it held. -/
def toepC (c : Dev nD) (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) (x6 : Vec F S28x128 .f32) (f : BufTy.Contents (Elt F) arg11.view.ty) : BufTy.Contents (Elt F) arg11.view.ty :=
  if h : k0_cond1 i = 1#1 then arg11.view.writes (Elt F) f (part3Run c i arg2 harg2 arg3 harg3 arg4 harg4 arg5 harg5 arg6 harg6 arg7 harg7 arg8 harg8 arg9 harg9 arg10 harg10 arg11 harg11 arg12 harg12 (BitVec.ofNat 32 (i 0).val) h x6).1 else f

/-- What `arg12` holds after the second conditional: one row of mask tiles rebuilt, or what it held. -/
def maskC (c : Dev nD) (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) (x7 : Vec F S1x1x512 .i32) (f : BufTy.Contents (Elt F) arg12.view.ty) : BufTy.Contents (Elt F) arg12.view.ty :=
  if h : k0_cond2 i = 1#1 then arg12.view.writes (Elt F) f (maskRun c i arg2 harg2 arg3 harg3 arg4 harg4 arg5 harg5 arg6 harg6 arg7 harg7 arg8 harg8 arg9 harg9 arg10 harg10 arg11 harg11 arg12 harg12 (BitVec.ofNat 32 (i 1).val) h x7).1 else f

/-- The second conditional, then the tail. -/
def maskIf (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) :
    Prog (TpuEff nD τ sig (Elt F) Λ₀ .tc) (Σ' (arg0 : BitVec 32) (arg1 : BitVec 32) (v7 : BitVec 32) (v15 : F .f32), FVec F S512x128 .f32) :=
  if h2 : k0_cond2 i = 1#1 then (do
    let ⟨v1599, v1600, v1635, v1637⟩ : Σ' (v1599 : IVec S1x512 32) (v1600 : IVec S1x128 32) (v1635 : FVec F S128x128 .f32), Vec F S1x1x128x128 .f32 ← k0_part4 i arg2 harg2 arg3 harg3 arg4 harg4 arg5 harg5 arg6 harg6 arg7 harg7 arg8 harg8 arg9 harg9 arg10 harg10 arg11 harg11 arg12 harg12 (BitVec.ofNat 32 (i 1).val) h2
    let ⟨v1653, v1679⟩ : Σ' (v1653 : IVec S1x128 32), FVec F S1x1x128x128 .f32 ← k0_part5 i arg2 harg2 arg3 harg3 arg4 harg4 arg5 harg5 arg6 harg6 arg7 harg7 arg8 harg8 arg9 harg9 arg10 harg10 arg11 harg11 arg12 harg12 (BitVec.ofNat 32 (i 1).val) h2 v1599 v1600 v1635 v1637
    let ⟨v1706, v1720⟩ : Σ' (v1706 : IVec S1x128 32), IVec S1x128 32 ← k0_part6 i arg2 harg2 arg3 harg3 arg4 harg4 arg5 harg5 arg6 harg6 arg7 harg7 arg8 harg8 arg9 harg9 arg10 harg10 arg11 harg11 arg12 harg12 (BitVec.ofNat 32 (i 1).val) h2 v1599 v1653 v1679
    let ⟨v1759, v1762⟩ : Σ' (v1759 : IVec S1x128 32), IVec S128x128 32 ← k0_part7 i arg2 harg2 arg3 harg3 arg4 harg4 arg5 harg5 arg6 harg6 arg7 harg7 arg8 harg8 arg9 harg9 arg10 harg10 arg11 harg11 arg12 harg12 (BitVec.ofNat 32 (i 1).val) h2 v1599 v1706 v1720
    let v1804 : IVec S128x128 1 ← k0_part8 i arg2 harg2 arg3 harg3 arg4 harg4 arg5 harg5 arg6 harg6 arg7 harg7 arg8 harg8 arg9 harg9 arg10 harg10 arg11 harg11 arg12 harg12 (BitVec.ofNat 32 (i 1).val) h2 v1599 v1759 v1762
    let v1809 : Vec F S1x1x128x128 .f32 ← Prog.lift (.load arg12 (Rect.unit (s := S4x4x512x128) (k0_off21 i) S1x1x128x128.size (k0_off21_inb i h2)).toLoadRect (View.loadsAt_vmem h_S1x1x128x128))
    Prog.lift (.store arg12 (Rect.unit (s := S4x4x512x128) (k0_off21 i) S1x1x128x128.size (k0_off21_inb i h2)) (k0_pay35 (F := F) v1804) Finset.univ (View.stores_vmem_bits_univ h_S1x1x128x128 rfl) (.inl rfl))
    tail9 i arg2 harg2 arg3 harg3 arg4 harg4 arg5 harg5 arg6 harg6 arg7 harg7 arg8 harg8 arg9 harg9 arg10 harg10 arg11 harg11 arg12 harg12) else tail9 i arg2 harg2 arg3 harg3 arg4 harg4 arg5 harg5 arg6 harg6 arg7 harg7 arg8 harg8 arg9 harg9 arg10 harg10 arg11 harg11 arg12 harg12

theorem part9_eq (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) :
    k0_part9 (F := F) i arg2 harg2 arg3 harg3 arg4 harg4 arg5 harg5 arg6 harg6 arg7 harg7 arg8 harg8 arg9 harg9 arg10 harg10 arg11 harg11 arg12 harg12 = if h1 : k0_cond1 i = 1#1 then (do
      k0_part3 i arg2 harg2 arg3 harg3 arg4 harg4 arg5 harg5 arg6 harg6 arg7 harg7 arg8 harg8 arg9 harg9 arg10 harg10 arg11 harg11 arg12 harg12 (BitVec.ofNat 32 (i 0).val) h1
      maskIf i arg2 harg2 arg3 harg3 arg4 harg4 arg5 harg5 arg6 harg6 arg7 harg7 arg8 harg8 arg9 harg9 arg10 harg10 arg11 harg11 arg12 harg12) else maskIf i arg2 harg2 arg3 harg3 arg4 harg4 arg5 harg5 arg6 harg6 arg7 harg7 arg8 harg8 arg9 harg9 arg10 harg10 arg11 harg11 arg12 harg12 := rfl

theorem body_eq (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) :
    cc0_relbias_attention (F := F) i arg2 harg2 arg3 harg3 arg4 harg4 arg5 harg5 arg6 harg6 arg7 harg7 arg8 harg8 arg9 harg9 arg10 harg10 arg11 harg11 arg12 harg12 = (k0_part9 i arg2 harg2 arg3 harg3 arg4 harg4 arg5 harg5 arg6 harg6 arg7 harg7 arg8 harg8 arg9 harg9 arg10 harg10 arg11 harg11 arg12 harg12 >>= rest10 i arg2 harg2 arg3 harg3 arg4 harg4 arg5 harg5 arg6 harg6 arg7 harg7 arg8 harg8 arg9 harg9 arg10 harg10 arg11 harg11 arg12 harg12) := by
  rw [cc0_relbias_attention_eq_skeleton]; rfl

set_option maxHeartbeats 1000000 in
/-- The tail from raw contents of the two tables. -/
theorem tailRaw (c : Dev nD) (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) (x0 : Vec F S4x28 .f32) (x1 : Vec F S4x28 .f32) (x2 : Vec F S4x28 .f32) (x3 : Vec F S1x4x512x128 .fp8e4m3) (x4 : Vec F S1x4x512x128 .fp8e4m3) (x5 : Vec F S1x4x512x128 .fp8e4m3) (x6 : Vec F S28x128 .f32) (x7 : Vec F S1x1x512 .i32)
    (E : Set ℕ) (K : PUnit → sProp 𝕄) (f10 : BufTy.Contents (Elt F) arg10.view.ty) (g11 : BufTy.Contents (Elt F) arg11.view.ty) (g12 : BufTy.Contents (Elt F) arg12.view.ty) :
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} f10) ∗ (arg11.view.loc (c : Thread nD τ) ↦[arg11.view.set]{fullShare} g11) ∗ (arg12.view.loc (c : Thread nD τ) ↦[arg12.view.set]{fullShare} g12)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} (arg10.view.writes (Elt F) f10 (tailRun c i arg2 harg2 arg3 harg3 arg4 harg4 arg5 harg5 arg6 harg6 arg7 harg7 arg8 harg8 arg9 harg9 arg10 harg10 arg11 harg11 arg12 harg12 x0 x1 x2 x3 x4 x5 (arg11.view.read (Elt F) g11) (arg12.view.read (Elt F) g12)).1)) ∗ (arg11.view.loc (c : Thread nD τ) ↦[arg11.view.set]{fullShare} g11) ∗ (arg12.view.loc (c : Thread nD τ) ↦[arg12.view.set]{fullShare} g12)) -∗ K ⟨⟩))
      ⊢ wp frame (wpE (defs₀ (F := F)) Variants.none c none) E (tail9 i arg2 harg2 arg3 harg3 arg4 harg4 arg5 harg5 arg6 harg6 arg7 harg7 arg8 harg8 arg9 harg9 arg10 harg10 arg11 harg11 arg12 harg12) (fun r => wp frame (wpE (defs₀ (F := F)) Variants.none c none) E (rest10 i arg2 harg2 arg3 harg3 arg4 harg4 arg5 harg5 arg6 harg6 arg7 harg7 arg8 harg8 arg9 harg9 arg10 harg10 arg11 harg11 arg12 harg12 r) K) := by
  iintro ⟨H0, H1, H2, H3, H4, H5, H6, H7, H8, HS0, HS1, Hk⟩
  iapply ((tailRun c i arg2 harg2 arg3 harg3 arg4 harg4 arg5 harg5 arg6 harg6 arg7 harg7 arg8 harg8 arg9 harg9 arg10 harg10 arg11 harg11 arg12 harg12 x0 x1 x2 x3 x4 x5 (arg11.view.read (Elt F) g11) (arg12.view.read (Elt F) g12)).2 E K f10)
  isplitl [H0]; · iexact H0
  isplitl [H1]; · iexact H1
  isplitl [H2]; · iexact H2
  isplitl [H3]; · iexact H3
  isplitl [H4]; · iexact H4
  isplitl [H5]; · iexact H5
  isplitl [HS0]
  · unfold owns; iexists _; isplitr; · ipureintro; rfl
    iexact HS0
  isplitl [HS1]
  · unfold owns; iexists _; isplitr; · ipureintro; rfl
    iexact HS1
  isplitl [H8]; · iexact H8
  unfold owns
  iintro ⟨H0, H1, H2, H3, H4, H5, ⟨%e0, %he0, HS0⟩, ⟨%e1, %he1, HS1⟩, H8⟩
  obtain rfl := (harg11.eq_unread he0).trans (harg11.eq_unread rfl).symm
  obtain rfl := (harg12.eq_unread he1).trans (harg12.eq_unread rfl).symm
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  iexact HS1

set_option maxHeartbeats 2000000 in
/-- The body's triple: on whole buffers, the inputs at their contents, the two tables and the output at anything. -/
theorem bodyRun (c : Dev nD) (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) (x0 : Vec F S4x28 .f32) (x1 : Vec F S4x28 .f32) (x2 : Vec F S4x28 .f32) (x3 : Vec F S1x4x512x128 .fp8e4m3) (x4 : Vec F S1x4x512x128 .fp8e4m3) (x5 : Vec F S1x4x512x128 .fp8e4m3) (x6 : Vec F S28x128 .f32) (x7 : Vec F S1x1x512 .i32)
    (E : Set ℕ) (K : PUnit → sProp 𝕄) (f10 : BufTy.Contents (Elt F) arg10.view.ty) (f11 : BufTy.Contents (Elt F) arg11.view.ty) (f12 : BufTy.Contents (Elt F) arg12.view.ty) :
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} (arg10.view.writes (Elt F) f10 (tailRun c i arg2 harg2 arg3 harg3 arg4 harg4 arg5 harg5 arg6 harg6 arg7 harg7 arg8 harg8 arg9 harg9 arg10 harg10 arg11 harg11 arg12 harg12 x0 x1 x2 x3 x4 x5 (arg11.view.read (Elt F) (toepC c i arg2 harg2 arg3 harg3 arg4 harg4 arg5 harg5 arg6 harg6 arg7 harg7 arg8 harg8 arg9 harg9 arg10 harg10 arg11 harg11 arg12 harg12 x6 f11)) (arg12.view.read (Elt F) (maskC c i arg2 harg2 arg3 harg3 arg4 harg4 arg5 harg5 arg6 harg6 arg7 harg7 arg8 harg8 arg9 harg9 arg10 harg10 arg11 harg11 arg12 harg12 x7 f12))).1)) ∗ (arg11.view.loc (c : Thread nD τ) ↦[arg11.view.set]{fullShare} (toepC c i arg2 harg2 arg3 harg3 arg4 harg4 arg5 harg5 arg6 harg6 arg7 harg7 arg8 harg8 arg9 harg9 arg10 harg10 arg11 harg11 arg12 harg12 x6 f11)) ∗ (arg12.view.loc (c : Thread nD τ) ↦[arg12.view.set]{fullShare} (maskC c i arg2 harg2 arg3 harg3 arg4 harg4 arg5 harg5 arg6 harg6 arg7 harg7 arg8 harg8 arg9 harg9 arg10 harg10 arg11 harg11 arg12 harg12 x7 f12))) -∗ K ⟨⟩))
      ⊢ wp frame (wpE (defs₀ (F := F)) Variants.none c none) E (cc0_relbias_attention i arg2 harg2 arg3 harg3 arg4 harg4 arg5 harg5 arg6 harg6 arg7 harg7 arg8 harg8 arg9 harg9 arg10 harg10 arg11 harg11 arg12 harg12) K := by
  rw [body_eq, wp_bind, part9_eq]
  have T := tailRaw c i arg2 harg2 arg3 harg3 arg4 harg4 arg5 harg5 arg6 harg6 arg7 harg7 arg8 harg8 arg9 harg9 arg10 harg10 arg11 harg11 arg12 harg12 x0 x1 x2 x3 x4 x5 x6 x7 E K f10
  have KEY : ∀ g11 : BufTy.Contents (Elt F) arg11.view.ty,
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} f10) ∗ (arg11.view.loc (c : Thread nD τ) ↦[arg11.view.set]{fullShare} g11) ∗ (arg12.view.loc (c : Thread nD τ) ↦[arg12.view.set]{fullShare} f12)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg10.view.loc (c : Thread nD τ) ↦[arg10.view.set]{fullShare} (arg10.view.writes (Elt F) f10 (tailRun c i arg2 harg2 arg3 harg3 arg4 harg4 arg5 harg5 arg6 harg6 arg7 harg7 arg8 harg8 arg9 harg9 arg10 harg10 arg11 harg11 arg12 harg12 x0 x1 x2 x3 x4 x5 (arg11.view.read (Elt F) g11) (arg12.view.read (Elt F) (maskC c i arg2 harg2 arg3 harg3 arg4 harg4 arg5 harg5 arg6 harg6 arg7 harg7 arg8 harg8 arg9 harg9 arg10 harg10 arg11 harg11 arg12 harg12 x7 f12))).1)) ∗ (arg11.view.loc (c : Thread nD τ) ↦[arg11.view.set]{fullShare} g11) ∗ (arg12.view.loc (c : Thread nD τ) ↦[arg12.view.set]{fullShare} (maskC c i arg2 harg2 arg3 harg3 arg4 harg4 arg5 harg5 arg6 harg6 arg7 harg7 arg8 harg8 arg9 harg9 arg10 harg10 arg11 harg11 arg12 harg12 x7 f12))) -∗ K ⟨⟩))
      ⊢ wp frame (wpE (defs₀ (F := F)) Variants.none c none) E (maskIf i arg2 harg2 arg3 harg3 arg4 harg4 arg5 harg5 arg6 harg6 arg7 harg7 arg8 harg8 arg9 harg9 arg10 harg10 arg11 harg11 arg12 harg12) (fun r => wp frame (wpE (defs₀ (F := F)) Variants.none c none) E (rest10 i arg2 harg2 arg3 harg3 arg4 harg4 arg5 harg5 arg6 harg6 arg7 harg7 arg8 harg8 arg9 harg9 arg10 harg10 arg11 harg11 arg12 harg12 r) K) := by
    intro g11
    unfold maskIf
    by_cases h2 : k0_cond2 i = 1#1
    · have hM : (maskC c i arg2 harg2 arg3 harg3 arg4 harg4 arg5 harg5 arg6 harg6 arg7 harg7 arg8 harg8 arg9 harg9 arg10 harg10 arg11 harg11 arg12 harg12 x7 f12) = arg12.view.writes (Elt F) f12 (maskRun c i arg2 harg2 arg3 harg3 arg4 harg4 arg5 harg5 arg6 harg6 arg7 harg7 arg8 harg8 arg9 harg9 arg10 harg10 arg11 harg11 arg12 harg12 (BitVec.ofNat 32 (i 1).val) h2 x7).1 := by
        unfold maskC; exact dif_pos h2
      rw [dif_pos h2, hM]
      iintro ⟨H0, H1, H2, H3, H4, H5, H6, H7, H8, HS0, HS1, Hk⟩
      iapply ((maskRun c i arg2 harg2 arg3 harg3 arg4 harg4 arg5 harg5 arg6 harg6 arg7 harg7 arg8 harg8 arg9 harg9 arg10 harg10 arg11 harg11 arg12 harg12 (BitVec.ofNat 32 (i 1).val) h2 x7).2 _ (tail9 i arg2 harg2 arg3 harg3 arg4 harg4 arg5 harg5 arg6 harg6 arg7 harg7 arg8 harg8 arg9 harg9 arg10 harg10 arg11 harg11 arg12 harg12) E _ f12)
      isplitl [H7]; · iexact H7
      isplitl [HS1]; · iexact HS1
      iintro ⟨H7, HS1⟩
      iapply (T g11 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iexact Hk
    · have hM : (maskC c i arg2 harg2 arg3 harg3 arg4 harg4 arg5 harg5 arg6 harg6 arg7 harg7 arg8 harg8 arg9 harg9 arg10 harg10 arg11 harg11 arg12 harg12 x7 f12) = f12 := by unfold maskC; exact dif_neg h2
      rw [dif_neg h2, hM]
      exact T g11 f12
  by_cases h1 : k0_cond1 i = 1#1
  · have hT : (toepC c i arg2 harg2 arg3 harg3 arg4 harg4 arg5 harg5 arg6 harg6 arg7 harg7 arg8 harg8 arg9 harg9 arg10 harg10 arg11 harg11 arg12 harg12 x6 f11) = arg11.view.writes (Elt F) f11 (part3Run c i arg2 harg2 arg3 harg3 arg4 harg4 arg5 harg5 arg6 harg6 arg7 harg7 arg8 harg8 arg9 harg9 arg10 harg10 arg11 harg11 arg12 harg12 (BitVec.ofNat 32 (i 0).val) h1 x6).1 := by
      unfold toepC; exact dif_pos h1
    rw [hT]
    rw [dif_pos h1, wp_bind]
    iintro ⟨H0, H1, H2, H3, H4, H5, H6, H7, H8, HS0, HS1, Hk⟩
    iapply ((part3Run c i arg2 harg2 arg3 harg3 arg4 harg4 arg5 harg5 arg6 harg6 arg7 harg7 arg8 harg8 arg9 harg9 arg10 harg10 arg11 harg11 arg12 harg12 (BitVec.ofNat 32 (i 0).val) h1 x6).2 E _ f11)
    isplitl [H6]; · iexact H6
    isplitl [HS0]; · iexact HS0
    iintro ⟨H6, HS0⟩
    iapply (KEY _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iexact Hk
  · have hT : (toepC c i arg2 harg2 arg3 harg3 arg4 harg4 arg5 harg5 arg6 harg6 arg7 harg7 arg8 harg8 arg9 harg9 arg10 harg10 arg11 harg11 arg12 harg12 x6 f11) = f11 := by unfold toepC; exact dif_neg h1
    rw [hT]
    rw [dif_neg h1]
    exact KEY f11

end Cert.KernelIdeal.Hand
end
-- ==== Proof.MaskTile.lean ====
module

public import proofs.«01_k».proof.Proof.Body
public import Idealize.ShloMosaic.Lib.Pointwise
public import proofs.«01_k».proof.Proof.Row
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The mask tile of key lane word `a` and query lane word `b`: 0 where they agree, `-∞` elsewhere. -/
def tile (a b : IVec S1x128 32) : FVec Ideal S1x1x128x128 .f32 :=
  shapeCast S1x1x128x128
    (select (cmpi .eq (transpose S128x128 [1, 0] (broadcastTo S128x128 a broadcasts_S1x128_S128x128) transposes_S128x128_p1_0_S128x128)
        (broadcastTo S128x128 b broadcasts_S1x128_S128x128))
      (broadcast S128x128 (Scalar.ofBits .f32 0x00000000#32)) (broadcast S128x128 (Scalar.ofBits .f32 0xFF800000#32)))
    shapeCasts_S128x128_S1x1x128x128

/-- 0 between keys of one segment and `-∞` between keys of two. -/
def maskOf (a b : BitVec 32) : EReal := if a = b then 0 else ⊥

theorem select_mask (a b : BitVec 32) :
    Scalar.select (IntOp.cmpi .eq a b) (0 : EReal) (Ideal.ofBits .f32 0xFF800000#32) = maskOf a b := by
  have hb : Ideal.ofBits .f32 0xFF800000#32 = ⊥ := by simp [Ideal.ofBits, Ideal.ieee]
  rw [hb]
  unfold maskOf
  by_cases h : a = b
  · simp [Scalar.select, IntOp.cmpi, h]
  · have h' : (a == b) = false := by simpa using h
    simp [Scalar.select, IntOp.cmpi, h, h']

theorem tile_apply (a b : IVec S1x128 32) (p q : Fin 1) (j l : Fin 128) :
    tile a b (ix4 p q j l) = maskOf (a (ix2 0 j)) (b (ix2 0 l)) := by
  have h0 : p = 0 := Subsingleton.elim _ _
  have h1 : q = 0 := Subsingleton.elim _ _
  subst h0 h1
  rw [← select_mask]
  pointwise [tile]

/-- The mask of the segment row `seg`: row block `y 0` is whatever batch row was written there. -/
def maskTab (seg : Fin 512 → BitVec 32) (y : S4x4x512x128.Idx) : EReal :=
  maskOf (seg (y 2)) (seg ⟨128 * (y 1).val + (y 3).val, by have h1 : (y 1).val < 4 := (y 1).isLt; have h3 : (y 3).val < 128 := (y 3).isLt; omega⟩)

theorem tile_piece (seg : Fin 512 → BitVec 32) (n t o o' : ℕ) (ht : t < 4) (ho : o + 128 ≤ 512) (ho' : o' = 128 * t) (a b : IVec S1x128 32)
    (off : Fin 4 → ℕ) (hoff : off = ![n, t, o, 0])
    (inb : ∀ k, off k + (![1, 1, 128, 128] : Fin 4 → ℕ) k ≤ S4x4x512x128.size k)
    (ha : ∀ z : Fin 128, a (ix2 0 z) = seg ⟨o + z.val, by omega⟩)
    (hb : ∀ z : Fin 128, b (ix2 0 z) = seg ⟨o' + z.val, by omega⟩)
    (pay : FVec Ideal S1x1x128x128 .f32) (hp : pay = tile a b)
    (x : (Rect.unit (s := S4x4x512x128) off ![1, 1, 128, 128] inb).shape.Idx) :
    pay x = maskTab seg ((Rect.unit (s := S4x4x512x128) off ![1, 1, 128, 128] inb).emb x) := by
  subst hoff
  subst hp
  subst ho'
  have hn : n < 4 := by have := inb 0; change n + 1 ≤ 4 at this; omega
  have hx : x = ix4 (x 0) (x 1) (x 2) (x 3) := eq_ix4 x
  have h0 : (x 0).val = 0 := by have : (x 0).val < 1 := (x 0).isLt; omega
  have h1 : (x 1).val = 0 := by have : (x 1).val < 1 := (x 1).isLt; omega
  have h2 : (x 2).val < 128 := (x 2).isLt
  have he : (Rect.unit (s := S4x4x512x128) ![n, t, o, 0] ![1, 1, 128, 128] inb).emb x
      = ix4 ⟨n, hn⟩ ⟨t, ht⟩ ⟨o + (x 2).val, by omega⟩ (x 3) := by
    funext a
    apply Fin.ext
    rw [Rect.emb_apply]
    fin_cases a
    · show n + 1 * (x 0).val = n; omega
    · show t + 1 * (x 1).val = t; omega
    · show o + 1 * (x 2).val = o + (x 2).val; omega
    · show 0 + 1 * (x 3).val = (x 3).val; omega
  rw [he]
  conv_lhs => rw [hx]
  refine (tile_apply a b (x 0) (x 1) (x 2) (x 3)).trans ?_
  exact congrArg₂ maskOf (ha (x 2)) (hb (x 3))

/-- A mask tile's rectangle is the `(t, o / 128)` square of row block `n`. -/
theorem mem_tile (n t o : ℕ) (off : Fin 4 → ℕ) (hoff : off = ![n, t, o, 0])
    (inb : ∀ k, off k + (![1, 1, 128, 128] : Fin 4 → ℕ) k ≤ S4x4x512x128.size k) (y : S4x4x512x128.Idx) :
    y ∈ (Rect.unit (s := S4x4x512x128) off ![1, 1, 128, 128] inb).set ↔ (y 0).val = n ∧ (y 1).val = t ∧ o ≤ (y 2).val ∧ (y 2).val < o + 128 := by
  subst hoff
  rw [Rect.mem_set_unit]
  have h3 : (y 3).val < 128 := (y 3).isLt
  constructor
  · intro h
    have a0 : n ≤ (y 0).val ∧ (y 0).val < n + 1 := h 0
    have a1 : t ≤ (y 1).val ∧ (y 1).val < t + 1 := h 1
    have a2 : o ≤ (y 2).val ∧ (y 2).val < o + 128 := h 2
    omega
  · rintro ⟨e0, e1, e2⟩ a
    fin_cases a
    · show n ≤ (y 0).val ∧ (y 0).val < n + 1; omega
    · show t ≤ (y 1).val ∧ (y 1).val < t + 1; omega
    · show o ≤ (y 2).val ∧ (y 2).val < o + 128; omega
    · show 0 ≤ (y 3).val ∧ (y 3).val < 0 + 128; omega

theorem row4_eq (i : grid0.Coords) : (Scalar.indexCast (BitVec.ofNat 32 (i 1).val)).toNat = (i 1).val := by
  have h : (i 1).val < 4 := (i 1).isLt
  have e : ∀ n : Fin 4, (Scalar.indexCast (BitVec.ofNat 32 n.val)).toNat = n.val := by decide +kernel
  exact e ⟨(i 1).val, h⟩

theorem off21_eq (i : grid0.Coords) : k0_off21 i = ![(i 1).val, 3, 384, 0] :=
  congrArg (fun n : ℕ => (![n, 3, 384, 0] : Fin 4 → ℕ)) (row4_eq i)
theorem off20_eq (i : grid0.Coords) : k0_off20 i = ![(i 1).val, 3, 256, 0] :=
  congrArg (fun n : ℕ => (![n, 3, 256, 0] : Fin 4 → ℕ)) (row4_eq i)
theorem off19_eq (i : grid0.Coords) : k0_off19 i = ![(i 1).val, 3, 128, 0] :=
  congrArg (fun n : ℕ => (![n, 3, 128, 0] : Fin 4 → ℕ)) (row4_eq i)
theorem off18_eq (i : grid0.Coords) : k0_off18 i = ![(i 1).val, 3, 0, 0] :=
  congrArg (fun n : ℕ => (![n, 3, 0, 0] : Fin 4 → ℕ)) (row4_eq i)
theorem off17_eq (i : grid0.Coords) : k0_off17 i = ![(i 1).val, 2, 384, 0] :=
  congrArg (fun n : ℕ => (![n, 2, 384, 0] : Fin 4 → ℕ)) (row4_eq i)
theorem off16_eq (i : grid0.Coords) : k0_off16 i = ![(i 1).val, 2, 256, 0] :=
  congrArg (fun n : ℕ => (![n, 2, 256, 0] : Fin 4 → ℕ)) (row4_eq i)
theorem off15_eq (i : grid0.Coords) : k0_off15 i = ![(i 1).val, 2, 128, 0] :=
  congrArg (fun n : ℕ => (![n, 2, 128, 0] : Fin 4 → ℕ)) (row4_eq i)
theorem off14_eq (i : grid0.Coords) : k0_off14 i = ![(i 1).val, 2, 0, 0] :=
  congrArg (fun n : ℕ => (![n, 2, 0, 0] : Fin 4 → ℕ)) (row4_eq i)
theorem off13_eq (i : grid0.Coords) : k0_off13 i = ![(i 1).val, 1, 384, 0] :=
  congrArg (fun n : ℕ => (![n, 1, 384, 0] : Fin 4 → ℕ)) (row4_eq i)
theorem off12_eq (i : grid0.Coords) : k0_off12 i = ![(i 1).val, 1, 256, 0] :=
  congrArg (fun n : ℕ => (![n, 1, 256, 0] : Fin 4 → ℕ)) (row4_eq i)
theorem off11_eq (i : grid0.Coords) : k0_off11 i = ![(i 1).val, 1, 128, 0] :=
  congrArg (fun n : ℕ => (![n, 1, 128, 0] : Fin 4 → ℕ)) (row4_eq i)
theorem off10_eq (i : grid0.Coords) : k0_off10 i = ![(i 1).val, 1, 0, 0] :=
  congrArg (fun n : ℕ => (![n, 1, 0, 0] : Fin 4 → ℕ)) (row4_eq i)
theorem off9_eq (i : grid0.Coords) : k0_off9 i = ![(i 1).val, 0, 384, 0] :=
  congrArg (fun n : ℕ => (![n, 0, 384, 0] : Fin 4 → ℕ)) (row4_eq i)
theorem off8_eq (i : grid0.Coords) : k0_off8 i = ![(i 1).val, 0, 256, 0] :=
  congrArg (fun n : ℕ => (![n, 0, 256, 0] : Fin 4 → ℕ)) (row4_eq i)
theorem off7_eq (i : grid0.Coords) : k0_off7 i = ![(i 1).val, 0, 128, 0] :=
  congrArg (fun n : ℕ => (![n, 0, 128, 0] : Fin 4 → ℕ)) (row4_eq i)
theorem off6_eq (i : grid0.Coords) : k0_off6 i = ![(i 1).val, 0, 0, 0] :=
  congrArg (fun n : ℕ => (![n, 0, 0, 0] : Fin 4 → ℕ)) (row4_eq i)

/-- A block's segment words by lane. -/
def segOf (x7 : Vec Ideal S1x1x512 .i32) : Fin 512 → BitVec 32 := fun j => x7 (ix3 0 0 j)

theorem pay11_apply (arg9 : Memref sig .tc .vmem S1x1x512 .i32) (harg9 : arg9.IsWhole) (x7 : Vec Ideal S1x1x512 .i32)
    (inb) (j : Fin 512) :
    k0_pay11 (View.readAt (Elt Ideal) arg9.view (Rect.unit (s := S1x1x512) ![0, 0, 0] S1x1x512.size inb).toLoadRect (harg9.unread x7)) (ix2 0 j) = segOf x7 j := by
  rw [View.readAt_eq_ld, harg9.read_unread]
  pointwise [k0_pay11, segOf]

/-- The segment words the point read, as one row. -/
def segRow (arg9 : Memref sig .tc .vmem S1x1x512 .i32) (harg9 : arg9.IsWhole) (x7 : Vec Ideal S1x1x512 .i32) : IVec S1x512 32 :=
  k0_pay11 (F := Ideal) (View.readAt (Elt Ideal) arg9.view (Rect.unit (s := S1x1x512) ![0, 0, 0] S1x1x512.size inb_S1x1x512_S1x1x512_0_0_0).toLoadRect (harg9.unread x7))

def keyCut0 (S : IVec S1x512 32) : IVec S1x128 32 :=
  shapeCast S1x128 (extractStridedSlice S1x128 ![0, 0] S slices_S1x512_o0_0_S1x128) shapeCasts_S1x128_S1x128
def queryCut0 (S : IVec S1x512 32) : IVec S1x128 32 :=
  extractStridedSlice S1x128 ![0, 0] S slices_S1x512_o0_0_S1x128
theorem keyCut0_apply (S : IVec S1x512 32) (seg : Fin 512 → BitVec 32) (h : ∀ j, S (ix2 0 j) = seg j) (z : Fin 128) :
    keyCut0 S (ix2 0 z) = seg ⟨0 + z.val, by omega⟩ := by
  rw [← h]
  pointwise [keyCut0]
theorem queryCut0_apply (S : IVec S1x512 32) (seg : Fin 512 → BitVec 32) (h : ∀ j, S (ix2 0 j) = seg j) (z : Fin 128) :
    queryCut0 S (ix2 0 z) = seg ⟨0 + z.val, by omega⟩ := by
  rw [← h]
  pointwise [queryCut0]
def keyCut1 (S : IVec S1x512 32) : IVec S1x128 32 :=
  shapeCast S1x128 (extractStridedSlice S1x128 ![0, 128] S slices_S1x512_o0_128_S1x128) shapeCasts_S1x128_S1x128
def queryCut1 (S : IVec S1x512 32) : IVec S1x128 32 :=
  extractStridedSlice S1x128 ![0, 128] S slices_S1x512_o0_128_S1x128
theorem keyCut1_apply (S : IVec S1x512 32) (seg : Fin 512 → BitVec 32) (h : ∀ j, S (ix2 0 j) = seg j) (z : Fin 128) :
    keyCut1 S (ix2 0 z) = seg ⟨128 + z.val, by omega⟩ := by
  rw [← h]
  pointwise [keyCut1]
theorem queryCut1_apply (S : IVec S1x512 32) (seg : Fin 512 → BitVec 32) (h : ∀ j, S (ix2 0 j) = seg j) (z : Fin 128) :
    queryCut1 S (ix2 0 z) = seg ⟨128 + z.val, by omega⟩ := by
  rw [← h]
  pointwise [queryCut1]
def keyCut2 (S : IVec S1x512 32) : IVec S1x128 32 :=
  shapeCast S1x128 (extractStridedSlice S1x128 ![0, 256] S slices_S1x512_o0_256_S1x128) shapeCasts_S1x128_S1x128
def queryCut2 (S : IVec S1x512 32) : IVec S1x128 32 :=
  extractStridedSlice S1x128 ![0, 256] S slices_S1x512_o0_256_S1x128
theorem keyCut2_apply (S : IVec S1x512 32) (seg : Fin 512 → BitVec 32) (h : ∀ j, S (ix2 0 j) = seg j) (z : Fin 128) :
    keyCut2 S (ix2 0 z) = seg ⟨256 + z.val, by omega⟩ := by
  rw [← h]
  pointwise [keyCut2]
theorem queryCut2_apply (S : IVec S1x512 32) (seg : Fin 512 → BitVec 32) (h : ∀ j, S (ix2 0 j) = seg j) (z : Fin 128) :
    queryCut2 S (ix2 0 z) = seg ⟨256 + z.val, by omega⟩ := by
  rw [← h]
  pointwise [queryCut2]
def keyCut3 (S : IVec S1x512 32) : IVec S1x128 32 :=
  shapeCast S1x128 (extractStridedSlice S1x128 ![0, 384] S slices_S1x512_o0_384_S1x128) shapeCasts_S1x128_S1x128
def queryCut3 (S : IVec S1x512 32) : IVec S1x128 32 :=
  extractStridedSlice S1x128 ![0, 384] S slices_S1x512_o0_384_S1x128
theorem keyCut3_apply (S : IVec S1x512 32) (seg : Fin 512 → BitVec 32) (h : ∀ j, S (ix2 0 j) = seg j) (z : Fin 128) :
    keyCut3 S (ix2 0 z) = seg ⟨384 + z.val, by omega⟩ := by
  rw [← h]
  pointwise [keyCut3]
theorem queryCut3_apply (S : IVec S1x512 32) (seg : Fin 512 → BitVec 32) (h : ∀ j, S (ix2 0 j) = seg j) (z : Fin 128) :
    queryCut3 S (ix2 0 z) = seg ⟨384 + z.val, by omega⟩ := by
  rw [← h]
  pointwise [queryCut3]

end Cert.KernelIdeal.Hand
end
-- ==== Proof.Block.lean ====
module

public import proofs.«01_k».proof.Proof.Tiles
public import proofs.«01_k».proof.Proof.MaskTile

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The head the point's head slot `g` is. -/
def headOf (i : grid0.Coords) (g : Fin 4) : Fin 28 :=
  ⟨4 * (i 0).val + g.val, by have h : (i 0).val < 7 := (i 0).isLt; omega⟩

/-- One score of the unit of head slot `g` and query tile `t`: query lane `l` against key `j`. -/
def scoreAt (i : grid0.Coords) (x0 x1 : Vec Ideal S4x28 .f32) (x3 x4 : Vec Ideal S1x4x512x128 .fp8e4m3) (x11 : Vec Ideal S4x112x8x128 .f32)
    (x12 : Vec Ideal S4x4x512x128 .f32) (g t : Fin 4) (l : Fin 128) (j : Fin 512) : EReal :=
  (∑ x : Fin 128, x4 (ix4 0 g j x) * x3 (ix4 0 g ⟨128 * t.val + l.val, by omega⟩ x)) * (x0 (ix2 (i 1) (headOf i g)) * x1 (ix2 (i 1) (headOf i g)) * Row.L)
    + x11 (ix4 g ⟨48 - 16 * t.val + j.val / 8, by omega⟩ ⟨j.val % 8, by omega⟩ l) + x12 (ix4 (i 1) t j l)

/-- One output of that unit. -/
def blockAt (i : grid0.Coords) (x0 x1 x2 : Vec Ideal S4x28 .f32) (x3 x4 x5 : Vec Ideal S1x4x512x128 .fp8e4m3) (x11 : Vec Ideal S4x112x8x128 .f32) (x12 : Vec Ideal S4x4x512x128 .f32) (g t : Fin 4) (l h : Fin 128) : EReal :=
  unitVal (scoreAt i x0 x1 x3 x4 x11 x12 g t l) (fun j => x5 (ix4 0 g j h)) (x2 (ix2 (i 1) (headOf i g)))

/-- The output block of a point, from its input blocks and the two scratch tables. -/
def blockVal (i : grid0.Coords) (x0 x1 x2 : Vec Ideal S4x28 .f32) (x3 x4 x5 : Vec Ideal S1x4x512x128 .fp8e4m3) (x11 : Vec Ideal S4x112x8x128 .f32) (x12 : Vec Ideal S4x4x512x128 .f32) (y : S1x512x512.Idx) : EReal :=
  blockAt i x0 x1 x2 x3 x4 x5 x11 x12 ⟨(y 2).val / 128, by have h : (y 2).val < 512 := (y 2).isLt; omega⟩
    ⟨(y 1).val / 128, by have h : (y 1).val < 512 := (y 1).isLt; omega⟩ ⟨(y 1).val % 128, by omega⟩ ⟨(y 2).val % 128, by omega⟩

theorem load_eq {m : Space} {s : Shape} {e : EltTy} (a : Memref sig .tc m s e) (ha : a.IsWhole) (x : Vec Ideal s e) (r : Rect s) (z : r.shape.Idx) :
    View.readAt (Elt Ideal) a.view r.toLoadRect (ha.unread x) z = View.ld x r z := by
  rw [View.readAt_eq_ld, ha.read_unread]

theorem load4 {n0 n1 n2 n3 z0 z1 z2 z3 : ℕ} {e : EltTy} (x : (⟨4, ![n0, n1, n2, n3]⟩ : Shape).Idx → Elt Ideal e) (o : Fin 4 → ℕ) (b0 b1 b2 b3 : ℕ) (ho : o = ![b0, b1, b2, b3])
    (h : ∀ a, o a + (![z0, z1, z2, z3] : Fin 4 → ℕ) a ≤ (⟨4, ![n0, n1, n2, n3]⟩ : Shape).size a) (p : Fin z0) (q : Fin z1) (r : Fin z2) (t : Fin z3)
    (p' : Fin n0) (q' : Fin n1) (r' : Fin n2) (t' : Fin n3) (hp : p'.val = b0 + p.val) (hq : q'.val = b1 + q.val) (hr : r'.val = b2 + r.val) (ht : t'.val = b3 + t.val) :
    View.ld x (Rect.unit (s := ⟨4, ![n0, n1, n2, n3]⟩) o ![z0, z1, z2, z3] h) (ix4 p q r t) = x (ix4 p' q' r' t') := by
  subst ho
  refine congrArg x (funext fun a => Fin.ext ?_)
  fin_cases a
  · show b0 + 1 * p.val = p'.val; omega
  · show b1 + 1 * q.val = q'.val; omega
  · show b2 + 1 * r.val = r'.val; omega
  · show b3 + 1 * t.val = t'.val; omega

theorem load2 (x : Vec Ideal S4x28 .f32) (o : Fin 2 → ℕ) (b0 b1 : ℕ) (ho : o = ![b0, b1])
    (h : ∀ a, o a + S1x1.size a ≤ S4x28.size a) (hn) (p' : Fin 4) (q' : Fin 28) (hp : p'.val = b0) (hq : q'.val = b1) :
    View.ld x (Rect.unit (s := S4x28) o S1x1.size h) (Shape.Idx.first (s := S1x1) hn) = x (ix2 p' q') := by
  subst ho
  refine congrArg x (funext fun a => Fin.ext ?_)
  fin_cases a
  · show b0 + 1 * 0 = p'.val; omega
  · show b1 + 1 * 0 = q'.val; omega

/-- A unit at the offsets of head slot `g` and query tile `t` reads the blocks there. -/
theorem unitAt_apply (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) (x0 x1 x2 : Vec Ideal S4x28 .f32) (x3 x4 x5 : Vec Ideal S1x4x512x128 .fp8e4m3) (x11 : Vec Ideal S4x112x8x128 .f32) (x12 : Vec Ideal S4x4x512x128 .f32)
    (oS : Fin 2 → ℕ) (hS : ∀ a, oS a + S1x1.size a ≤ S4x28.size a) (oM : Fin 4 → ℕ) (hM : ∀ a, oM a + S1x1x512x128.size a ≤ S4x4x512x128.size a)
    (oQ : Fin 4 → ℕ) (hQ : ∀ a, oQ a + S1x1x128x128.size a ≤ S1x4x512x128.size a) (oK : Fin 4 → ℕ) (hK : ∀ a, oK a + S1x1x512x128.size a ≤ S1x4x512x128.size a)
    (oT : Fin 4 → ℕ) (hT : ∀ a, oT a + S1x64x8x128.size a ≤ S4x112x8x128.size a) (g t : Fin 4)
    (eS : oS = ![(i 1).val, 4 * (i 0).val + g.val]) (eM : oM = ![(i 1).val, t.val, 0, 0]) (eQ : oQ = ![0, g.val, 128 * t.val, 0]) (eK : oK = ![0, g.val, 0, 0])
    (eT : oT = ![g.val, 48 - 16 * t.val, 0, 0]) (l h : Fin 128) :
    unitAt (F := Ideal) arg2 harg2 arg3 harg3 arg4 harg4 arg5 harg5 arg6 harg6 arg7 harg7 arg8 harg8 arg9 harg9 arg10 harg10 arg11 harg11 arg12 harg12 x0 x1 x2 x3 x4 x5 x11 x12 oS hS oM hM oQ hQ oK hK oT hT (ix3 0 l h) = blockAt i x0 x1 x2 x3 x4 x5 x11 x12 g t l h := by
  unfold unitAt
  rw [unit_apply]
  simp only [load_eq]
  unfold blockAt scoreAt
  rw [load2 x0 oS _ _ eS hS _ (i 1) (headOf i g) rfl rfl, load2 x1 oS _ _ eS hS _ (i 1) (headOf i g) rfl rfl, load2 x2 oS _ _ eS hS _ (i 1) (headOf i g) rfl rfl]
  have hk : ∀ (w : Vec Ideal S1x4x512x128 .fp8e4m3) (j : Fin 512) (x : Fin 128), View.ld w (Rect.unit (s := S1x4x512x128) oK S1x1x512x128.size hK) (ix4 0 0 j x) = w (ix4 0 g j x) :=
    fun w j x => load4 w oK _ _ _ _ eK hK 0 0 j x 0 g j x (by simp) (by simp) (by simp) (by simp)
  have hk4 := hk x4
  have hk5 := hk x5
  have hq : ∀ (x : Fin 128), View.ld x3 (Rect.unit (s := S1x4x512x128) oQ S1x1x128x128.size hQ) (ix4 0 0 l x) = x3 (ix4 0 g ⟨128 * t.val + l.val, by omega⟩ x) :=
    fun x => load4 x3 oQ _ _ _ _ eQ hQ 0 0 l x 0 g _ x (by simp) (by simp) (by simp) (by simp)
  have ht : ∀ (a : Fin 64) (b : Fin 8), View.ld x11 (Rect.unit (s := S4x112x8x128) oT S1x64x8x128.size hT) (ix4 0 a b l) = x11 (ix4 g ⟨48 - 16 * t.val + a.val, by omega⟩ b l) :=
    fun a b => load4 x11 oT _ _ _ _ eT hT 0 a b l g _ b l (by simp) (by simp) (by simp) (by simp)
  have hm : ∀ (j : Fin 512), View.ld x12 (Rect.unit (s := S4x4x512x128) oM S1x1x512x128.size hM) (ix4 0 0 j l) = x12 (ix4 (i 1) t j l) :=
    fun j => load4 x12 oM _ _ _ _ eM hM 0 0 j l (i 1) t j l (by simp) (by simp) (by simp) (by simp)
  simp only [hk4, hk5, hq, ht, hm]

theorem off22_eq (i : grid0.Coords) (g : Fin 4) : k0_off22 i (BitVec.ofNat 32 g.val) = ![(i 1).val, 4 * (i 0).val + g.val] := by
  have h : (i 0).val < 7 := (i 0).isLt
  have e : ∀ (n : Fin 7) (g : Fin 4), (Scalar.indexCast (Scalar.addi (Scalar.muli (BitVec.ofNat 32 n.val) 4#32) (BitVec.ofNat 32 g.val))).toNat = 4 * n.val + g.val := by decide +kernel
  exact congrArg₂ (fun a b : ℕ => (![a, b] : Fin 2 → ℕ)) (row4_eq i) (e ⟨(i 0).val, h⟩ g)
theorem off23_eq (i : grid0.Coords) : k0_off23 i = ![(i 1).val, 0, 0, 0] :=
  congrArg (fun n : ℕ => (![n, 0, 0, 0] : Fin 4 → ℕ)) (row4_eq i)
theorem off24_eq (i : grid0.Coords) : k0_off24 i = ![(i 1).val, 1, 0, 0] :=
  congrArg (fun n : ℕ => (![n, 1, 0, 0] : Fin 4 → ℕ)) (row4_eq i)
theorem off25_eq (i : grid0.Coords) : k0_off25 i = ![(i 1).val, 2, 0, 0] :=
  congrArg (fun n : ℕ => (![n, 2, 0, 0] : Fin 4 → ℕ)) (row4_eq i)
theorem off26_eq (i : grid0.Coords) : k0_off26 i = ![(i 1).val, 3, 0, 0] :=
  congrArg (fun n : ℕ => (![n, 3, 0, 0] : Fin 4 → ℕ)) (row4_eq i)

/-- A piece that agrees with `blockAt` of its head slot and query tile agrees with the block. -/
theorem block_piece (i : grid0.Coords) (x0 x1 x2 : Vec Ideal S4x28 .f32) (x3 x4 x5 : Vec Ideal S1x4x512x128 .fp8e4m3) (x11 : Vec Ideal S4x112x8x128 .f32) (x12 : Vec Ideal S4x4x512x128 .f32) (g t : Fin 4) (o1 o2 : ℕ) (e1 : o1 = 128 * t.val) (e2 : o2 = 128 * g.val)
    (inb : ∀ a, (![0, o1, o2] : Fin 3 → ℕ) a + S1x128x128.size a ≤ S1x512x512.size a) (pay : FVec Ideal S1x128x128 .bf16)
    (hp : ∀ l h, pay (ix3 0 l h) = blockAt i x0 x1 x2 x3 x4 x5 x11 x12 g t l h) (z : (Rect.unit (s := S1x512x512) ![0, o1, o2] S1x128x128.size inb).shape.Idx) :
    pay z = blockVal i x0 x1 x2 x3 x4 x5 x11 x12 ((Rect.unit (s := S1x512x512) ![0, o1, o2] S1x128x128.size inb).emb z) := by
  subst e1 e2
  have hz : z = ix3 (z 0) (z 1) (z 2) := eq_ix3 z
  have h0 : z 0 = (0 : Fin 1) := Subsingleton.elim (α := Fin 1) _ _
  have b1 : (z 1).val < 128 := (z 1).isLt
  have b2 : (z 2).val < 128 := (z 2).isLt
  have c1 : ((Rect.unit (s := S1x512x512) ![0, 128 * t.val, 128 * g.val] S1x128x128.size inb).emb z 1).val = 128 * t.val + (z 1).val := by
    rw [Rect.emb_apply]; show 128 * t.val + 1 * (z 1).val = _; omega
  have c2 : ((Rect.unit (s := S1x512x512) ![0, 128 * t.val, 128 * g.val] S1x128x128.size inb).emb z 2).val = 128 * g.val + (z 2).val := by
    rw [Rect.emb_apply]; show 128 * g.val + 1 * (z 2).val = _; omega
  have hL : pay z = blockAt i x0 x1 x2 x3 x4 x5 x11 x12 g t (z 1) (z 2) := by
    rw [← hp (z 1) (z 2)]
    exact congrArg pay (hz.trans (by rw [h0]; rfl))
  rw [hL]
  unfold blockVal
  have d1 : (⟨((Rect.unit (s := S1x512x512) ![0, 128 * t.val, 128 * g.val] S1x128x128.size inb).emb z 2).val / 128, by rw [c2]; omega⟩ : Fin 4) = g := Fin.ext (by show _ / 128 = _; rw [c2]; omega)
  have d2 : (⟨((Rect.unit (s := S1x512x512) ![0, 128 * t.val, 128 * g.val] S1x128x128.size inb).emb z 1).val / 128, by rw [c1]; omega⟩ : Fin 4) = t := Fin.ext (by show _ / 128 = _; rw [c1]; omega)
  have d3 : (⟨((Rect.unit (s := S1x512x512) ![0, 128 * t.val, 128 * g.val] S1x128x128.size inb).emb z 1).val % 128, by omega⟩ : Fin 128) = z 1 := Fin.ext (by show _ % 128 = _; rw [c1]; omega)
  have d4 : (⟨((Rect.unit (s := S1x512x512) ![0, 128 * t.val, 128 * g.val] S1x128x128.size inb).emb z 2).val % 128, by omega⟩ : Fin 128) = z 2 := Fin.ext (by show _ % 128 = _; rw [c2]; omega)
  rw [d1, d2, d3, d4]

theorem mem_block (o1 o2 : ℕ) (inb : ∀ a, (![0, o1, o2] : Fin 3 → ℕ) a + S1x128x128.size a ≤ S1x512x512.size a) (y : S1x512x512.Idx)
    (h1 : o1 ≤ (y 1).val ∧ (y 1).val < o1 + 128) (h2 : o2 ≤ (y 2).val ∧ (y 2).val < o2 + 128) : y ∈ (Rect.unit (s := S1x512x512) ![0, o1, o2] S1x128x128.size inb).set := by
  rw [Rect.mem_set_unit]
  have h0 : (y 0).val < 1 := (y 0).isLt
  intro a
  fin_cases a
  · show 0 ≤ (y 0).val ∧ (y 0).val < 0 + 1; omega
  · exact h1
  · exact h2

/-- What the output buffer reads after a point's stores. -/
theorem read_tail (c : Dev nD) (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) (x0 x1 x2 : Vec Ideal S4x28 .f32) (x3 x4 x5 : Vec Ideal S1x4x512x128 .fp8e4m3) (x11 : Vec Ideal S4x112x8x128 .f32) (x12 : Vec Ideal S4x4x512x128 .f32) (f : BufTy.Contents (Elt Ideal) arg10.view.ty) :
    arg10.view.read (Elt Ideal) (arg10.view.writes (Elt Ideal) f (tailRun (F := Ideal) c i arg2 harg2 arg3 harg3 arg4 harg4 arg5 harg5 arg6 harg6 arg7 harg7 arg8 harg8 arg9 harg9 arg10 harg10 arg11 harg11 arg12 harg12 x0 x1 x2 x3 x4 x5 x11 x12).1) = blockVal i x0 x1 x2 x3 x4 x5 x11 x12 := by
  funext y
  rw [tail_list]
  refine View.read_writes_apply_of_pieces _ _ _ _ ?_ y ?_
  · simp only [List.mem_cons, List.not_mem_nil, _root_.or_false, forall_eq_or_imp, forall_eq]
    refine ⟨?_, ?_, ?_, ?_, ?_, ?_, ?_, ?_, ?_, ?_, ?_, ?_, ?_, ?_, ?_, ?_⟩
    · exact block_piece i x0 x1 x2 x3 x4 x5 x11 x12 3 3 384 384 rfl rfl _ _ (unitAt_apply i arg2 harg2 arg3 harg3 arg4 harg4 arg5 harg5 arg6 harg6 arg7 harg7 arg8 harg8 arg9 harg9 arg10 harg10 arg11 harg11 arg12 harg12 x0 x1 x2 x3 x4 x5 x11 x12 _ _ _ _ _ _ _ _ _ _ 3 3 (off22_eq i 3) (off26_eq i) rfl rfl rfl)
    · exact block_piece i x0 x1 x2 x3 x4 x5 x11 x12 3 2 256 384 rfl rfl _ _ (unitAt_apply i arg2 harg2 arg3 harg3 arg4 harg4 arg5 harg5 arg6 harg6 arg7 harg7 arg8 harg8 arg9 harg9 arg10 harg10 arg11 harg11 arg12 harg12 x0 x1 x2 x3 x4 x5 x11 x12 _ _ _ _ _ _ _ _ _ _ 3 2 (off22_eq i 3) (off25_eq i) rfl rfl rfl)
    · exact block_piece i x0 x1 x2 x3 x4 x5 x11 x12 3 1 128 384 rfl rfl _ _ (unitAt_apply i arg2 harg2 arg3 harg3 arg4 harg4 arg5 harg5 arg6 harg6 arg7 harg7 arg8 harg8 arg9 harg9 arg10 harg10 arg11 harg11 arg12 harg12 x0 x1 x2 x3 x4 x5 x11 x12 _ _ _ _ _ _ _ _ _ _ 3 1 (off22_eq i 3) (off24_eq i) rfl rfl rfl)
    · exact block_piece i x0 x1 x2 x3 x4 x5 x11 x12 3 0 0 384 rfl rfl _ _ (unitAt_apply i arg2 harg2 arg3 harg3 arg4 harg4 arg5 harg5 arg6 harg6 arg7 harg7 arg8 harg8 arg9 harg9 arg10 harg10 arg11 harg11 arg12 harg12 x0 x1 x2 x3 x4 x5 x11 x12 _ _ _ _ _ _ _ _ _ _ 3 0 (off22_eq i 3) (off23_eq i) rfl rfl rfl)
    · exact block_piece i x0 x1 x2 x3 x4 x5 x11 x12 2 3 384 256 rfl rfl _ _ (unitAt_apply i arg2 harg2 arg3 harg3 arg4 harg4 arg5 harg5 arg6 harg6 arg7 harg7 arg8 harg8 arg9 harg9 arg10 harg10 arg11 harg11 arg12 harg12 x0 x1 x2 x3 x4 x5 x11 x12 _ _ _ _ _ _ _ _ _ _ 2 3 (off22_eq i 2) (off26_eq i) rfl rfl rfl)
    · exact block_piece i x0 x1 x2 x3 x4 x5 x11 x12 2 2 256 256 rfl rfl _ _ (unitAt_apply i arg2 harg2 arg3 harg3 arg4 harg4 arg5 harg5 arg6 harg6 arg7 harg7 arg8 harg8 arg9 harg9 arg10 harg10 arg11 harg11 arg12 harg12 x0 x1 x2 x3 x4 x5 x11 x12 _ _ _ _ _ _ _ _ _ _ 2 2 (off22_eq i 2) (off25_eq i) rfl rfl rfl)
    · exact block_piece i x0 x1 x2 x3 x4 x5 x11 x12 2 1 128 256 rfl rfl _ _ (unitAt_apply i arg2 harg2 arg3 harg3 arg4 harg4 arg5 harg5 arg6 harg6 arg7 harg7 arg8 harg8 arg9 harg9 arg10 harg10 arg11 harg11 arg12 harg12 x0 x1 x2 x3 x4 x5 x11 x12 _ _ _ _ _ _ _ _ _ _ 2 1 (off22_eq i 2) (off24_eq i) rfl rfl rfl)
    · exact block_piece i x0 x1 x2 x3 x4 x5 x11 x12 2 0 0 256 rfl rfl _ _ (unitAt_apply i arg2 harg2 arg3 harg3 arg4 harg4 arg5 harg5 arg6 harg6 arg7 harg7 arg8 harg8 arg9 harg9 arg10 harg10 arg11 harg11 arg12 harg12 x0 x1 x2 x3 x4 x5 x11 x12 _ _ _ _ _ _ _ _ _ _ 2 0 (off22_eq i 2) (off23_eq i) rfl rfl rfl)
    · exact block_piece i x0 x1 x2 x3 x4 x5 x11 x12 1 3 384 128 rfl rfl _ _ (unitAt_apply i arg2 harg2 arg3 harg3 arg4 harg4 arg5 harg5 arg6 harg6 arg7 harg7 arg8 harg8 arg9 harg9 arg10 harg10 arg11 harg11 arg12 harg12 x0 x1 x2 x3 x4 x5 x11 x12 _ _ _ _ _ _ _ _ _ _ 1 3 (off22_eq i 1) (off26_eq i) rfl rfl rfl)
    · exact block_piece i x0 x1 x2 x3 x4 x5 x11 x12 1 2 256 128 rfl rfl _ _ (unitAt_apply i arg2 harg2 arg3 harg3 arg4 harg4 arg5 harg5 arg6 harg6 arg7 harg7 arg8 harg8 arg9 harg9 arg10 harg10 arg11 harg11 arg12 harg12 x0 x1 x2 x3 x4 x5 x11 x12 _ _ _ _ _ _ _ _ _ _ 1 2 (off22_eq i 1) (off25_eq i) rfl rfl rfl)
    · exact block_piece i x0 x1 x2 x3 x4 x5 x11 x12 1 1 128 128 rfl rfl _ _ (unitAt_apply i arg2 harg2 arg3 harg3 arg4 harg4 arg5 harg5 arg6 harg6 arg7 harg7 arg8 harg8 arg9 harg9 arg10 harg10 arg11 harg11 arg12 harg12 x0 x1 x2 x3 x4 x5 x11 x12 _ _ _ _ _ _ _ _ _ _ 1 1 (off22_eq i 1) (off24_eq i) rfl rfl rfl)
    · exact block_piece i x0 x1 x2 x3 x4 x5 x11 x12 1 0 0 128 rfl rfl _ _ (unitAt_apply i arg2 harg2 arg3 harg3 arg4 harg4 arg5 harg5 arg6 harg6 arg7 harg7 arg8 harg8 arg9 harg9 arg10 harg10 arg11 harg11 arg12 harg12 x0 x1 x2 x3 x4 x5 x11 x12 _ _ _ _ _ _ _ _ _ _ 1 0 (off22_eq i 1) (off23_eq i) rfl rfl rfl)
    · exact block_piece i x0 x1 x2 x3 x4 x5 x11 x12 0 3 384 0 rfl rfl _ _ (unitAt_apply i arg2 harg2 arg3 harg3 arg4 harg4 arg5 harg5 arg6 harg6 arg7 harg7 arg8 harg8 arg9 harg9 arg10 harg10 arg11 harg11 arg12 harg12 x0 x1 x2 x3 x4 x5 x11 x12 _ _ _ _ _ _ _ _ _ _ 0 3 (off22_eq i 0) (off26_eq i) rfl rfl rfl)
    · exact block_piece i x0 x1 x2 x3 x4 x5 x11 x12 0 2 256 0 rfl rfl _ _ (unitAt_apply i arg2 harg2 arg3 harg3 arg4 harg4 arg5 harg5 arg6 harg6 arg7 harg7 arg8 harg8 arg9 harg9 arg10 harg10 arg11 harg11 arg12 harg12 x0 x1 x2 x3 x4 x5 x11 x12 _ _ _ _ _ _ _ _ _ _ 0 2 (off22_eq i 0) (off25_eq i) rfl rfl rfl)
    · exact block_piece i x0 x1 x2 x3 x4 x5 x11 x12 0 1 128 0 rfl rfl _ _ (unitAt_apply i arg2 harg2 arg3 harg3 arg4 harg4 arg5 harg5 arg6 harg6 arg7 harg7 arg8 harg8 arg9 harg9 arg10 harg10 arg11 harg11 arg12 harg12 x0 x1 x2 x3 x4 x5 x11 x12 _ _ _ _ _ _ _ _ _ _ 0 1 (off22_eq i 0) (off24_eq i) rfl rfl rfl)
    · exact block_piece i x0 x1 x2 x3 x4 x5 x11 x12 0 0 0 0 rfl rfl _ _ (unitAt_apply i arg2 harg2 arg3 harg3 arg4 harg4 arg5 harg5 arg6 harg6 arg7 harg7 arg8 harg8 arg9 harg9 arg10 harg10 arg11 harg11 arg12 harg12 x0 x1 x2 x3 x4 x5 x11 x12 _ _ _ _ _ _ _ _ _ _ 0 0 (off22_eq i 0) (off23_eq i) rfl rfl rfl)
  · simp only [List.mem_cons, List.not_mem_nil, _root_.or_false, exists_eq_or_imp, exists_eq_left]
    have b1 : (y 1).val < 512 := (y 1).isLt
    have b2 : (y 2).val < 512 := (y 2).isLt
    rcases (by omega : (384 ≤ (y 2).val ∧ (y 2).val < 384 + 128) ∨ (256 ≤ (y 2).val ∧ (y 2).val < 256 + 128) ∨ (128 ≤ (y 2).val ∧ (y 2).val < 128 + 128) ∨ (0 ≤ (y 2).val ∧ (y 2).val < 0 + 128)) with h2 | h2 | h2 | h2 <;>
    rcases (by omega : (384 ≤ (y 1).val ∧ (y 1).val < 384 + 128) ∨ (256 ≤ (y 1).val ∧ (y 1).val < 256 + 128) ∨ (128 ≤ (y 1).val ∧ (y 1).val < 128 + 128) ∨ (0 ≤ (y 1).val ∧ (y 1).val < 0 + 128)) with h1 | h1 | h1 | h1
    · exact (.inl (mem_block 384 384 _ y h1 h2))
    · exact (.inr (.inl (mem_block 256 384 _ y h1 h2)))
    · exact (.inr (.inr (.inl (mem_block 128 384 _ y h1 h2))))
    · exact (.inr (.inr (.inr (.inl (mem_block 0 384 _ y h1 h2)))))
    · exact (.inr (.inr (.inr (.inr (.inl (mem_block 384 256 _ y h1 h2))))))
    · exact (.inr (.inr (.inr (.inr (.inr (.inl (mem_block 256 256 _ y h1 h2)))))))
    · exact (.inr (.inr (.inr (.inr (.inr (.inr (.inl (mem_block 128 256 _ y h1 h2))))))))
    · exact (.inr (.inr (.inr (.inr (.inr (.inr (.inr (.inl (mem_block 0 256 _ y h1 h2)))))))))
    · exact (.inr (.inr (.inr (.inr (.inr (.inr (.inr (.inr (.inl (mem_block 384 128 _ y h1 h2))))))))))
    · exact (.inr (.inr (.inr (.inr (.inr (.inr (.inr (.inr (.inr (.inl (mem_block 256 128 _ y h1 h2)))))))))))
    · exact (.inr (.inr (.inr (.inr (.inr (.inr (.inr (.inr (.inr (.inr (.inl (mem_block 128 128 _ y h1 h2))))))))))))
    · exact (.inr (.inr (.inr (.inr (.inr (.inr (.inr (.inr (.inr (.inr (.inr (.inl (mem_block 0 128 _ y h1 h2)))))))))))))
    · exact (.inr (.inr (.inr (.inr (.inr (.inr (.inr (.inr (.inr (.inr (.inr (.inr (.inl (mem_block 384 0 _ y h1 h2))))))))))))))
    · exact (.inr (.inr (.inr (.inr (.inr (.inr (.inr (.inr (.inr (.inr (.inr (.inr (.inr (.inl (mem_block 256 0 _ y h1 h2)))))))))))))))
    · exact (.inr (.inr (.inr (.inr (.inr (.inr (.inr (.inr (.inr (.inr (.inr (.inr (.inr (.inr (.inl (mem_block 128 0 _ y h1 h2))))))))))))))))
    · exact (.inr (.inr (.inr (.inr (.inr (.inr (.inr (.inr (.inr (.inr (.inr (.inr (.inr (.inr (.inr (mem_block 0 0 _ y h1 h2))))))))))))))))

end Cert.KernelIdeal.Hand
end
-- ==== Proof.Toep.lean ====
module

public import proofs.«01_k».proof.Proof.Body
public import Idealize.ShloMosaic.Lib.Pointwise
public import proofs.«01_k».proof.Proof.Row
public import Idealize.ShloMosaic.Lib.Claim
public import Idealize.ShloMosaic.PureOps.IdealRules

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The kernel's bucket of a signed distance, as a word: the distance itself below 8, then one more
per threshold passed, and 16 more where the distance is positive. -/
def bucket (d : BitVec 32) : BitVec 32 :=
  IntOp.addi
    (Scalar.select (IntOp.cmpi .slt (IntOp.absi d) 8#32) (IntOp.absi d)
      (IntOp.addi (IntOp.addi (IntOp.addi (IntOp.addi (IntOp.addi (IntOp.addi (IntOp.addi 8#32
        (BitVec.setWidth 32 (IntOp.cmpi .sge (IntOp.absi d) 12#32)))
        (BitVec.setWidth 32 (IntOp.cmpi .sge (IntOp.absi d) 16#32)))
        (BitVec.setWidth 32 (IntOp.cmpi .sge (IntOp.absi d) 23#32)))
        (BitVec.setWidth 32 (IntOp.cmpi .sge (IntOp.absi d) 32#32)))
        (BitVec.setWidth 32 (IntOp.cmpi .sge (IntOp.absi d) 46#32)))
        (BitVec.setWidth 32 (IntOp.cmpi .sge (IntOp.absi d) 64#32)))
        (BitVec.setWidth 32 (IntOp.cmpi .sge (IntOp.absi d) 91#32))))
    (Scalar.select (IntOp.cmpi .sgt d 0#32) 16#32 0#32)

/-- The bucket as a lane of the 128-lane row: a negative word would count from the row's end. -/
def lane (d : BitVec 32) : Fin 128 :=
  ⟨(Scalar.select (IntOp.cmpi .slt (bucket d) 0#32) (IntOp.addi (bucket d) 128#32) (bucket d)).toNat % 128,
    Nat.mod_lt _ (by decide)⟩

/-- The signed distance held at row `n`, sublane `r`, lane `l` of the table. -/
def dist (n r l : ℕ) : BitVec 32 :=
  IntOp.subi (IntOp.addi (Scalar.muli (Scalar.subi (BitVec.ofNat 32 n) 48#32) 8#32) (BitVec.ofNat 32 r))
    (BitVec.ofNat 32 l)

set_option maxHeartbeats 2000000 in
/-- One piece a trip stores, read at an index: the row's entry at the bucket of the distance, scaled. -/
theorem pay3_apply (v : Vec Ideal S1x128 .f32) (k : Fin k0_t1_loop.trips) (a : Fin 1) (b : Fin 1) (r : Fin 8) (l : Fin 128) :
    k0_pay3 (k0_pay7 v) (k0_pay2 part3Run.sl.v1598 part3Run.sl.v1599 0#32 1#32 k) 0#32 (ix4 a b r l)
      = v (ix2 0 (lane (dist k.val r.val l.val))) * Row.L := by
  have hk : k.val < 112 := k.isLt
  have hiv : Scf.iv 0#32 1#32 k.val = BitVec.ofNat 32 k.val := by
    unfold Scf.iv
    simp
  have h0 : a = 0 := Subsingleton.elim _ _
  have h1 : b = 0 := Subsingleton.elim _ _
  subst h0 h1
  pointwise [k0_pay3, k0_pay7, k0_pay2, part3Run.sl.v1598, part3Run.sl.v1599]
  simp only [hiv]
  refine congrArg₂ (fun a b : EReal => a * b) ?_ (IdealRules.named_const.ideal_named_scalar (φ := .f32) κ "log2e" 0x3FB8AA3B#32 Row.L rfl)
  unfold lane bucket dist
  with_reducible rfl

/-- The four pieces of a trip are one text at four rows. -/
theorem pay_1 (v : Vec Ideal S1x128 .f32) (k : Fin k0_t1_loop.trips) : trip_k0_t1.sl.v1692 part3Run.sl.v1598 part3Run.sl.v1599 v k = k0_pay3 (k0_pay7 v) (k0_pay2 part3Run.sl.v1598 part3Run.sl.v1599 0#32 1#32 k) 0#32 := rfl
theorem pay_2 (v : Vec Ideal S1x128 .f32) (k : Fin k0_t1_loop.trips) : trip_k0_t1.sl.v1704 part3Run.sl.v1598 part3Run.sl.v1599 v k = k0_pay3 (k0_pay7 v) (k0_pay2 part3Run.sl.v1598 part3Run.sl.v1599 0#32 1#32 k) 0#32 := rfl
theorem pay_3 (v : Vec Ideal S1x128 .f32) (k : Fin k0_t1_loop.trips) : trip_k0_t1.sl.v1716 part3Run.sl.v1598 part3Run.sl.v1599 v k = k0_pay3 (k0_pay7 v) (k0_pay2 part3Run.sl.v1598 part3Run.sl.v1599 0#32 1#32 k) 0#32 := rfl
theorem pay_4 (v : Vec Ideal S1x128 .f32) (k : Fin k0_t1_loop.trips) : k0_pay10 v (trip_k0_t1.sl.v1685 part3Run.sl.v1598 part3Run.sl.v1599 k) = k0_pay3 (k0_pay7 v) (k0_pay2 part3Run.sl.v1598 part3Run.sl.v1599 0#32 1#32 k) 0#32 := rfl

/-- The table the four rows `w 0 … w 3` make. -/
def table (w : Fin 4 → Vec Ideal S1x128 .f32) : S4x112x8x128.Idx → EReal :=
  fun y => w (y 0) (ix2 0 (lane (dist (y 1).val (y 2).val (y 3).val))) * Row.L

theorem off2_eq (k : Fin k0_t1_loop.trips) : k0_off2 k = ![0, k.val, 0, 0] := by revert k; decide +kernel
theorem off3_eq (k : Fin k0_t1_loop.trips) : k0_off3 k = ![1, k.val, 0, 0] := by revert k; decide +kernel
theorem off4_eq (k : Fin k0_t1_loop.trips) : k0_off4 k = ![2, k.val, 0, 0] := by revert k; decide +kernel
theorem off5_eq (k : Fin k0_t1_loop.trips) : k0_off5 k = ![3, k.val, 0, 0] := by revert k; decide +kernel

/-- The piece at head row `g` and trip row `k` agrees with the table there. -/
theorem piece_table (w : Fin 4 → Vec Ideal S1x128 .f32) (g : Fin 4) (k : Fin k0_t1_loop.trips)
    (off : Fin 4 → ℕ) (hoff : off = ![g.val, k.val, 0, 0])
    (inb : ∀ a, off a + S1x1x8x128.size a ≤ S4x112x8x128.size a)
    (x : (Rect.unit (s := S4x112x8x128) off S1x1x8x128.size inb).shape.Idx) :
    k0_pay3 (k0_pay7 (w g)) (k0_pay2 part3Run.sl.v1598 part3Run.sl.v1599 0#32 1#32 k) 0#32 x
      = table w ((Rect.unit (s := S4x112x8x128) off S1x1x8x128.size inb).emb x) := by
  subst hoff
  have hk : k.val < 112 := k.isLt
  have hx : x = ix4 (x 0) (x 1) (x 2) (x 3) := eq_ix4 x
  have h0 : (x 0).val = 0 := by have : (x 0).val < 1 := (x 0).isLt; omega
  have h1 : (x 1).val = 0 := by have : (x 1).val < 1 := (x 1).isLt; omega
  have he : (Rect.unit (s := S4x112x8x128) ![g.val, k.val, 0, 0] S1x1x8x128.size inb).emb x
      = ix4 g ⟨k.val, hk⟩ (x 2) (x 3) := by
    funext a
    apply Fin.ext
    rw [Rect.emb_apply]
    fin_cases a
    · show g.val + 1 * (x 0).val = g.val; omega
    · show k.val + 1 * (x 1).val = k.val; omega
    · show 0 + 1 * (x 2).val = (x 2).val; omega
    · show 0 + 1 * (x 3).val = (x 3).val; omega
  rw [he]
  conv_lhs => rw [hx]
  exact pay3_apply (w g) k (x 0) (x 1) (x 2) (x 3)

/-- A trip's rectangle covers its row of the table. -/
theorem mem_row (g : Fin 4) (k : ℕ) (off : Fin 4 → ℕ) (hoff : off = ![g.val, k, 0, 0])
    (inb : ∀ a, off a + S1x1x8x128.size a ≤ S4x112x8x128.size a)
    (y : S4x112x8x128.Idx) (h0 : (y 0).val = g.val) (h1 : (y 1).val = k) :
    y ∈ (Rect.unit (s := S4x112x8x128) off S1x1x8x128.size inb).set := by
  subst hoff
  rw [Rect.mem_set_unit]
  have h2 : (y 2).val < 8 := (y 2).isLt
  have h3 : (y 3).val < 128 := (y 3).isLt
  intro a
  fin_cases a
  · show g.val ≤ (y 0).val ∧ (y 0).val < g.val + 1; omega
  · show k ≤ (y 1).val ∧ (y 1).val < k + 1; omega
  · show 0 ≤ (y 2).val ∧ (y 2).val < 0 + 8; omega
  · show 0 ≤ (y 3).val ∧ (y 3).val < 0 + 128; omega

set_option maxHeartbeats 2000000 in
/-- One trip's pieces agree with the table, and cover the trip's rows of it. -/
theorem trip_pieces (c : Dev nD) (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) (arg0 : BitVec 32) (h1 : k0_cond1 i = 1#1)
    (w : Fin 4 → Vec Ideal S1x128 .f32) (k : Fin k0_t1_loop.trips) :
    (∀ p ∈ tripL_k0_t1 (F := Ideal) Variants.none c none i arg2 harg2 arg3 harg3 arg4 harg4 arg5 harg5 arg6 harg6 arg7 harg7 arg8 harg8 arg9 harg9 arg10 harg10 arg11 harg11 arg12 harg12 arg0 h1 part3Run.sl.v1598 part3Run.sl.v1599 (w 0) (w 1) (w 2) (w 3) k,
      ∀ x, p.2 x = table w (p.1.emb x))
    ∧ ∀ y : S4x112x8x128.Idx, (y 1).val = k.val → ∃ p ∈ tripL_k0_t1 (F := Ideal) Variants.none c none i arg2 harg2 arg3 harg3 arg4 harg4 arg5 harg5 arg6 harg6 arg7 harg7 arg8 harg8 arg9 harg9 arg10 harg10 arg11 harg11 arg12 harg12 arg0 h1 part3Run.sl.v1598 part3Run.sl.v1599 (w 0) (w 1) (w 2) (w 3) k, y ∈ p.1.set := by
  unfold tripL_k0_t1 trip_k0_t1
  simp only [List.mem_cons, List.not_mem_nil, or_false, forall_eq_or_imp, forall_eq, exists_eq_or_imp, exists_eq_left]
  refine ⟨⟨fun x => ?_, fun x => ?_, fun x => ?_, fun x => ?_⟩, fun y hy => ?_⟩
  · exact piece_table w 3 k _ (off5_eq k) _ x
  · exact piece_table w 2 k _ (off4_eq k) _ x
  · exact piece_table w 1 k _ (off3_eq k) _ x
  · exact piece_table w 0 k _ (off2_eq k) _ x
  · have hy0 : (y 0).val < 4 := (y 0).isLt
    rcases (by omega : (y 0).val = 3 ∨ (y 0).val = 2 ∨ (y 0).val = 1 ∨ (y 0).val = 0) with h | h | h | h
    · exact .inl (mem_row 3 k.val _ (off5_eq k) _ y h hy)
    · exact .inr (.inl (mem_row 2 k.val _ (off4_eq k) _ y h hy))
    · exact .inr (.inr (.inl (mem_row 1 k.val _ (off3_eq k) _ y h hy)))
    · exact .inr (.inr (.inr (mem_row 0 k.val _ (off2_eq k) _ y h hy)))

set_option maxHeartbeats 2000000 in
/-- The pieces of the trips before `n` agree with the table, and cover its rows below `n`. -/
theorem trips_pieces (c : Dev nD) (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) (arg0 : BitVec 32) (h1 : k0_cond1 i = 1#1)
    (w : Fin 4 → Vec Ideal S1x128 .f32) (n : ℕ) (hn : n ≤ k0_t1_loop.trips) :
    (∀ p ∈ pb_k0_t1 (F := Ideal) Variants.none c none i arg2 harg2 arg3 harg3 arg4 harg4 arg5 harg5 arg6 harg6 arg7 harg7 arg8 harg8 arg9 harg9 arg10 harg10 arg11 harg11 arg12 harg12 arg0 h1 part3Run.sl.v1598 part3Run.sl.v1599 (w 0) (w 1) (w 2) (w 3) n,
      ∀ x, p.2 x = table w (p.1.emb x))
    ∧ ∀ y : S4x112x8x128.Idx, (y 1).val < n → ∃ p ∈ pb_k0_t1 (F := Ideal) Variants.none c none i arg2 harg2 arg3 harg3 arg4 harg4 arg5 harg5 arg6 harg6 arg7 harg7 arg8 harg8 arg9 harg9 arg10 harg10 arg11 harg11 arg12 harg12 arg0 h1 part3Run.sl.v1598 part3Run.sl.v1599 (w 0) (w 1) (w 2) (w 3) n, y ∈ p.1.set := by
  induction n with
  | zero =>
    refine ⟨fun p hp => ?_, fun y hy => absurd hy (Nat.not_lt_zero _)⟩
    rw [pb_k0_t1.eq_1] at hp
    exact absurd hp List.not_mem_nil
  | succ n ih =>
    have hlt : n < k0_t1_loop.trips := hn
    obtain ⟨ha, hc⟩ := ih (by omega)
    obtain ⟨ta, tc⟩ := trip_pieces c i arg2 harg2 arg3 harg3 arg4 harg4 arg5 harg5 arg6 harg6 arg7 harg7 arg8 harg8 arg9 harg9 arg10 harg10 arg11 harg11 arg12 harg12 arg0 h1 w ⟨n, hlt⟩
    have e := pb_k0_t1_succ (F := Ideal) Variants.none c none i arg2 harg2 arg3 harg3 arg4 harg4 arg5 harg5 arg6 harg6 arg7 harg7 arg8 harg8 arg9 harg9 arg10 harg10 arg11 harg11 arg12 harg12 arg0 h1 part3Run.sl.v1598 part3Run.sl.v1599 (w 0) (w 1) (w 2) (w 3) ⟨n, hlt⟩
    rw [e]
    refine ⟨fun p hp => ?_, fun y hy => ?_⟩
    · rcases List.mem_append.1 hp with h | h
      · exact ta p h
      · exact ha p h
    · by_cases hyn : (y 1).val = n
      · obtain ⟨p, hp, hm⟩ := tc y hyn
        exact ⟨p, List.mem_append_left _ hp, hm⟩
      · obtain ⟨p, hp, hm⟩ := hc y (by omega)
        exact ⟨p, List.mem_append_right _ hp, hm⟩

theorem off1_eq (i : grid0.Coords) (g : Fin 4) : k0_off1 i (BitVec.ofNat 32 g.val) = ![4 * (i 0).val + g.val, 0] := by
  have h : (i 0).val < 7 := (i 0).isLt
  have e : ∀ n : Fin 7, ∀ g : Fin 4, (Scalar.indexCast (Scalar.addi (Scalar.muli (BitVec.ofNat 32 n.val) 4#32) (BitVec.ofNat 32 g.val))).toNat = 4 * n.val + g.val := by decide +kernel
  exact congrArg (fun n : ℕ => (![n, 0] : Fin 2 → ℕ)) (e ⟨(i 0).val, h⟩ g)

/-- Row `g` of head group `hg`'s table row block: the kernel's load of one row of the table operand. -/
def rowOf (i : grid0.Coords) (x6 : Vec Ideal S28x128 .f32) (g : Fin 4) : Vec Ideal S1x128 .f32 :=
  fun z => x6 (ix2 ⟨4 * (i 0).val + g.val, by have h : (i 0).val < 7 := (i 0).isLt; have := g.isLt; show _ < 28; omega⟩ (z 1))

theorem ld_row (i : grid0.Coords) (x6 : Vec Ideal S28x128 .f32) (g : Fin 4) (off : Fin 2 → ℕ) (hoff : off = ![4 * (i 0).val + g.val, 0])
    (inb : ∀ a, off a + S1x128.size a ≤ S28x128.size a) :
    View.ld x6 (Rect.unit (s := S28x128) off S1x128.size inb) = rowOf i x6 g := by
  subst hoff
  funext z
  show x6 ((Rect.unit (s := S28x128) ![4 * (i 0).val + g.val, 0] S1x128.size inb).emb z) = _
  unfold rowOf
  congr 1
  have hz : (z 0).val = 0 := by have : (z 0).val < 1 := (z 0).isLt; omega
  funext a
  apply Fin.ext
  rw [Rect.emb_apply]
  fin_cases a
  · show 4 * (i 0).val + g.val + 1 * (z 0).val = 4 * (i 0).val + g.val
    omega
  · show 0 + 1 * (z 1).val = (z 1).val
    omega

set_option maxHeartbeats 2000000 in
/-- After a point with batch row 0 the table scratch holds the table of its head group. -/
theorem read_toepC (c : Dev nD) (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) (h1 : k0_cond1 i = 1#1)
    (x6 : Vec Ideal S28x128 .f32) (f : BufTy.Contents (Elt Ideal) arg11.view.ty) :
    arg11.view.read (Elt Ideal) (toepC c i arg2 harg2 arg3 harg3 arg4 harg4 arg5 harg5 arg6 harg6 arg7 harg7 arg8 harg8 arg9 harg9 arg10 harg10 arg11 harg11 arg12 harg12 x6 f) = table (rowOf i x6) := by
  unfold toepC
  rw [dif_pos h1]
  funext y
  unfold part3Run
  have hrow : ∀ g : Fin 4, ∀ inb, View.readAt (Elt Ideal) arg8.view (Rect.unit (s := S28x128) (k0_off1 i (BitVec.ofNat 32 g.val)) S1x128.size inb).toLoadRect (harg8.unread x6) = rowOf i x6 g := by
    intro g inb
    rw [View.readAt_eq_ld, harg8.read_unread]
    exact ld_row i x6 g _ (off1_eq i g) inb
  have ht := trips_pieces c i arg2 harg2 arg3 harg3 arg4 harg4 arg5 harg5 arg6 harg6 arg7 harg7 arg8 harg8 arg9 harg9 arg10 harg10 arg11 harg11 arg12 harg12 (BitVec.ofNat 32 (i 0).val) h1 (rowOf i x6) 112 (le_refl 112)
  rw [← hrow 0, ← hrow 1, ← hrow 2, ← hrow 3] at ht
  exact View.read_writes_apply_of_pieces _ _ _ _ ht.1 y (ht.2 y (y 1).isLt)

end Cert.KernelIdeal.Hand
end
-- ==== Proof.MaskBlock.lean ====
module

public import proofs.«01_k».proof.Proof.MaskTile

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 4000000 in
/-- The pieces of the row of mask tiles agree with the mask of the segments read. -/
theorem mask_pieces (c : Dev nD) (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) (arg1 : BitVec 32) (h2 : k0_cond2 i = 1#1) (x7 : Vec Ideal S1x1x512 .i32) :
    ∀ p ∈ (maskRun (F := Ideal) c i arg2 harg2 arg3 harg3 arg4 harg4 arg5 harg5 arg6 harg6 arg7 harg7 arg8 harg8 arg9 harg9 arg10 harg10 arg11 harg11 arg12 harg12 arg1 h2 x7).1, ∀ x, p.2 x = maskTab (segOf x7) (p.1.emb x) := by
  have hs : ∀ j, segRow arg9 harg9 x7 (ix2 0 j) = segOf x7 j := fun j => pay11_apply arg9 harg9 x7 inb_S1x1x512_S1x1x512_0_0_0 j
  unfold maskRun
  dsimp only
  have e21 : k0_pay35 (F := Ideal) (maskRun.sl.r_9 c arg9 harg9 x7) = tile (keyCut3 (segRow arg9 harg9 x7)) (queryCut3 (segRow arg9 harg9 x7)) := rfl
  have e20 : k0_pay33 (F := Ideal) (maskRun.sl.r c arg9 harg9 x7) (maskRun.sl.r_7 c arg9 harg9 x7) = tile (keyCut2 (segRow arg9 harg9 x7)) (queryCut3 (segRow arg9 harg9 x7)) := rfl
  have e19 : k0_pay32 (F := Ideal) (maskRun.sl.r c arg9 harg9 x7) (maskRun.sl.r_7 c arg9 harg9 x7) = tile (keyCut1 (segRow arg9 harg9 x7)) (queryCut3 (segRow arg9 harg9 x7)) := rfl
  have e18 : k0_pay31 (F := Ideal) (maskRun.sl.r_7 c arg9 harg9 x7) (maskRun.sl.r_8 c arg9 harg9 x7) = tile (keyCut0 (segRow arg9 harg9 x7)) (queryCut3 (segRow arg9 harg9 x7)) := rfl
  have e17 : k0_pay28 (F := Ideal) (maskRun.sl.r c arg9 harg9 x7) (maskRun.sl.r_5 c arg9 harg9 x7) = tile (keyCut3 (segRow arg9 harg9 x7)) (queryCut2 (segRow arg9 harg9 x7)) := rfl
  have e16 : k0_pay27 (F := Ideal) (maskRun.sl.r c arg9 harg9 x7) (maskRun.sl.r_5 c arg9 harg9 x7) = tile (keyCut2 (segRow arg9 harg9 x7)) (queryCut2 (segRow arg9 harg9 x7)) := rfl
  have e15 : k0_pay26 (F := Ideal) (maskRun.sl.r_5 c arg9 harg9 x7) (maskRun.sl.r_6 c arg9 harg9 x7) = tile (keyCut1 (segRow arg9 harg9 x7)) (queryCut2 (segRow arg9 harg9 x7)) := rfl
  have e14 : k0_pay24 (F := Ideal) (maskRun.sl.r c arg9 harg9 x7) = tile (keyCut0 (segRow arg9 harg9 x7)) (queryCut2 (segRow arg9 harg9 x7)) := rfl
  have e13 : k0_pay22 (F := Ideal) (maskRun.sl.r c arg9 harg9 x7) (maskRun.sl.r_3 c arg9 harg9 x7) = tile (keyCut3 (segRow arg9 harg9 x7)) (queryCut1 (segRow arg9 harg9 x7)) := rfl
  have e12 : k0_pay21 (F := Ideal) (maskRun.sl.r c arg9 harg9 x7) (maskRun.sl.r_3 c arg9 harg9 x7) = tile (keyCut2 (segRow arg9 harg9 x7)) (queryCut1 (segRow arg9 harg9 x7)) := rfl
  have e11 : (maskRun.sl.r_4 c arg9 harg9 x7) = tile (keyCut1 (segRow arg9 harg9 x7)) (queryCut1 (segRow arg9 harg9 x7)) := rfl
  have e10 : k0_pay19 (F := Ideal) (maskRun.sl.r c arg9 harg9 x7) = tile (keyCut0 (segRow arg9 harg9 x7)) (queryCut1 (segRow arg9 harg9 x7)) := rfl
  have e9 : k0_pay17 (F := Ideal) (maskRun.sl.r c arg9 harg9 x7) (maskRun.sl.r_1 c arg9 harg9 x7) = tile (keyCut3 (segRow arg9 harg9 x7)) (queryCut0 (segRow arg9 harg9 x7)) := rfl
  have e8 : k0_pay16 (F := Ideal) (maskRun.sl.r_2 c arg9 harg9 x7) = tile (keyCut2 (segRow arg9 harg9 x7)) (queryCut0 (segRow arg9 harg9 x7)) := rfl
  have e7 : k0_pay14 (F := Ideal) (View.readAt (Elt Ideal) arg9.view (Rect.unit (s := S1x1x512) ![0, 0, 0] S1x1x512.size inb_S1x1x512_S1x1x512_0_0_0).toLoadRect (harg9.unread x7)) = tile (keyCut1 (segRow arg9 harg9 x7)) (queryCut0 (segRow arg9 harg9 x7)) := rfl
  have e6 : k0_pay13 (F := Ideal) (View.readAt (Elt Ideal) arg9.view (Rect.unit (s := S1x1x512) ![0, 0, 0] S1x1x512.size inb_S1x1x512_S1x1x512_0_0_0).toLoadRect (harg9.unread x7)) = tile (keyCut0 (segRow arg9 harg9 x7)) (queryCut0 (segRow arg9 harg9 x7)) := rfl
  simp only [List.mem_cons, List.not_mem_nil, or_false, forall_eq_or_imp, forall_eq]
  refine ⟨?_, ?_, ?_, ?_, ?_, ?_, ?_, ?_, ?_, ?_, ?_, ?_, ?_, ?_, ?_, ?_⟩
  · exact tile_piece (segOf x7) (i 1).val 3 384 384 (by decide) (by decide) rfl (keyCut3 (segRow arg9 harg9 x7)) (queryCut3 (segRow arg9 harg9 x7)) (k0_off21 i) (off21_eq i) _ (keyCut3_apply _ _ hs) (queryCut3_apply _ _ hs) _ e21
  · exact tile_piece (segOf x7) (i 1).val 3 256 384 (by decide) (by decide) rfl (keyCut2 (segRow arg9 harg9 x7)) (queryCut3 (segRow arg9 harg9 x7)) (k0_off20 i) (off20_eq i) _ (keyCut2_apply _ _ hs) (queryCut3_apply _ _ hs) _ e20
  · exact tile_piece (segOf x7) (i 1).val 3 128 384 (by decide) (by decide) rfl (keyCut1 (segRow arg9 harg9 x7)) (queryCut3 (segRow arg9 harg9 x7)) (k0_off19 i) (off19_eq i) _ (keyCut1_apply _ _ hs) (queryCut3_apply _ _ hs) _ e19
  · exact tile_piece (segOf x7) (i 1).val 3 0 384 (by decide) (by decide) rfl (keyCut0 (segRow arg9 harg9 x7)) (queryCut3 (segRow arg9 harg9 x7)) (k0_off18 i) (off18_eq i) _ (keyCut0_apply _ _ hs) (queryCut3_apply _ _ hs) _ e18
  · exact tile_piece (segOf x7) (i 1).val 2 384 256 (by decide) (by decide) rfl (keyCut3 (segRow arg9 harg9 x7)) (queryCut2 (segRow arg9 harg9 x7)) (k0_off17 i) (off17_eq i) _ (keyCut3_apply _ _ hs) (queryCut2_apply _ _ hs) _ e17
  · exact tile_piece (segOf x7) (i 1).val 2 256 256 (by decide) (by decide) rfl (keyCut2 (segRow arg9 harg9 x7)) (queryCut2 (segRow arg9 harg9 x7)) (k0_off16 i) (off16_eq i) _ (keyCut2_apply _ _ hs) (queryCut2_apply _ _ hs) _ e16
  · exact tile_piece (segOf x7) (i 1).val 2 128 256 (by decide) (by decide) rfl (keyCut1 (segRow arg9 harg9 x7)) (queryCut2 (segRow arg9 harg9 x7)) (k0_off15 i) (off15_eq i) _ (keyCut1_apply _ _ hs) (queryCut2_apply _ _ hs) _ e15
  · exact tile_piece (segOf x7) (i 1).val 2 0 256 (by decide) (by decide) rfl (keyCut0 (segRow arg9 harg9 x7)) (queryCut2 (segRow arg9 harg9 x7)) (k0_off14 i) (off14_eq i) _ (keyCut0_apply _ _ hs) (queryCut2_apply _ _ hs) _ e14
  · exact tile_piece (segOf x7) (i 1).val 1 384 128 (by decide) (by decide) rfl (keyCut3 (segRow arg9 harg9 x7)) (queryCut1 (segRow arg9 harg9 x7)) (k0_off13 i) (off13_eq i) _ (keyCut3_apply _ _ hs) (queryCut1_apply _ _ hs) _ e13
  · exact tile_piece (segOf x7) (i 1).val 1 256 128 (by decide) (by decide) rfl (keyCut2 (segRow arg9 harg9 x7)) (queryCut1 (segRow arg9 harg9 x7)) (k0_off12 i) (off12_eq i) _ (keyCut2_apply _ _ hs) (queryCut1_apply _ _ hs) _ e12
  · exact tile_piece (segOf x7) (i 1).val 1 128 128 (by decide) (by decide) rfl (keyCut1 (segRow arg9 harg9 x7)) (queryCut1 (segRow arg9 harg9 x7)) (k0_off11 i) (off11_eq i) _ (keyCut1_apply _ _ hs) (queryCut1_apply _ _ hs) _ e11
  · exact tile_piece (segOf x7) (i 1).val 1 0 128 (by decide) (by decide) rfl (keyCut0 (segRow arg9 harg9 x7)) (queryCut1 (segRow arg9 harg9 x7)) (k0_off10 i) (off10_eq i) _ (keyCut0_apply _ _ hs) (queryCut1_apply _ _ hs) _ e10
  · exact tile_piece (segOf x7) (i 1).val 0 384 0 (by decide) (by decide) rfl (keyCut3 (segRow arg9 harg9 x7)) (queryCut0 (segRow arg9 harg9 x7)) (k0_off9 i) (off9_eq i) _ (keyCut3_apply _ _ hs) (queryCut0_apply _ _ hs) _ e9
  · exact tile_piece (segOf x7) (i 1).val 0 256 0 (by decide) (by decide) rfl (keyCut2 (segRow arg9 harg9 x7)) (queryCut0 (segRow arg9 harg9 x7)) (k0_off8 i) (off8_eq i) _ (keyCut2_apply _ _ hs) (queryCut0_apply _ _ hs) _ e8
  · exact tile_piece (segOf x7) (i 1).val 0 128 0 (by decide) (by decide) rfl (keyCut1 (segRow arg9 harg9 x7)) (queryCut0 (segRow arg9 harg9 x7)) (k0_off7 i) (off7_eq i) _ (keyCut1_apply _ _ hs) (queryCut0_apply _ _ hs) _ e7
  · exact tile_piece (segOf x7) (i 1).val 0 0 0 (by decide) (by decide) rfl (keyCut0 (segRow arg9 harg9 x7)) (queryCut0 (segRow arg9 harg9 x7)) (k0_off6 i) (off6_eq i) _ (keyCut0_apply _ _ hs) (queryCut0_apply _ _ hs) _ e6

end Cert.KernelIdeal.Hand
end
-- ==== Proof.MaskRead.lean ====
module

public import proofs.«01_k».proof.Proof.MaskBlock

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 2000000 in
theorem mask_cover (c : Dev nD) (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) (arg1 : BitVec 32) (h2 : k0_cond2 i = 1#1) (x7 : Vec Ideal S1x1x512 .i32) :
    (∀ p ∈ (maskRun (F := Ideal) c i arg2 harg2 arg3 harg3 arg4 harg4 arg5 harg5 arg6 harg6 arg7 harg7 arg8 harg8 arg9 harg9 arg10 harg10 arg11 harg11 arg12 harg12 arg1 h2 x7).1, ∀ y, y ∈ p.1.set → (y 0).val = (i 1).val)
    ∧ ∀ y : S4x4x512x128.Idx, (y 0).val = (i 1).val → ∃ p ∈ (maskRun (F := Ideal) c i arg2 harg2 arg3 harg3 arg4 harg4 arg5 harg5 arg6 harg6 arg7 harg7 arg8 harg8 arg9 harg9 arg10 harg10 arg11 harg11 arg12 harg12 arg1 h2 x7).1, y ∈ p.1.set := by
  unfold maskRun
  dsimp only
  simp only [List.mem_cons, List.not_mem_nil, or_false, forall_eq_or_imp, forall_eq, exists_eq_or_imp, exists_eq_left]
  refine ⟨⟨fun y hy => ?_, fun y hy => ?_, fun y hy => ?_, fun y hy => ?_, fun y hy => ?_, fun y hy => ?_, fun y hy => ?_, fun y hy => ?_, fun y hy => ?_, fun y hy => ?_, fun y hy => ?_, fun y hy => ?_, fun y hy => ?_, fun y hy => ?_, fun y hy => ?_, fun y hy => ?_⟩, fun y hy => ?_⟩
  · exact ((mem_tile (i 1).val 3 384 (k0_off21 i) (off21_eq i) _ y).1 hy).1
  · exact ((mem_tile (i 1).val 3 256 (k0_off20 i) (off20_eq i) _ y).1 hy).1
  · exact ((mem_tile (i 1).val 3 128 (k0_off19 i) (off19_eq i) _ y).1 hy).1
  · exact ((mem_tile (i 1).val 3 0 (k0_off18 i) (off18_eq i) _ y).1 hy).1
  · exact ((mem_tile (i 1).val 2 384 (k0_off17 i) (off17_eq i) _ y).1 hy).1
  · exact ((mem_tile (i 1).val 2 256 (k0_off16 i) (off16_eq i) _ y).1 hy).1
  · exact ((mem_tile (i 1).val 2 128 (k0_off15 i) (off15_eq i) _ y).1 hy).1
  · exact ((mem_tile (i 1).val 2 0 (k0_off14 i) (off14_eq i) _ y).1 hy).1
  · exact ((mem_tile (i 1).val 1 384 (k0_off13 i) (off13_eq i) _ y).1 hy).1
  · exact ((mem_tile (i 1).val 1 256 (k0_off12 i) (off12_eq i) _ y).1 hy).1
  · exact ((mem_tile (i 1).val 1 128 (k0_off11 i) (off11_eq i) _ y).1 hy).1
  · exact ((mem_tile (i 1).val 1 0 (k0_off10 i) (off10_eq i) _ y).1 hy).1
  · exact ((mem_tile (i 1).val 0 384 (k0_off9 i) (off9_eq i) _ y).1 hy).1
  · exact ((mem_tile (i 1).val 0 256 (k0_off8 i) (off8_eq i) _ y).1 hy).1
  · exact ((mem_tile (i 1).val 0 128 (k0_off7 i) (off7_eq i) _ y).1 hy).1
  · exact ((mem_tile (i 1).val 0 0 (k0_off6 i) (off6_eq i) _ y).1 hy).1
  · have h1 : (y 1).val < 4 := (y 1).isLt
    have h2' : (y 2).val < 512 := (y 2).isLt
    rcases (by omega : (y 1).val = 0 ∨ (y 1).val = 1 ∨ (y 1).val = 2 ∨ (y 1).val = 3) with ht | ht | ht | ht <;>
    rcases (by omega : (0 ≤ (y 2).val ∧ (y 2).val < 0 + 128) ∨ (128 ≤ (y 2).val ∧ (y 2).val < 128 + 128) ∨ (256 ≤ (y 2).val ∧ (y 2).val < 256 + 128) ∨ (384 ≤ (y 2).val ∧ (y 2).val < 384 + 128)) with hu | hu | hu | hu
    · exact .inr (.inr (.inr (.inr (.inr (.inr (.inr (.inr (.inr (.inr (.inr (.inr (.inr (.inr (.inr ((mem_tile (i 1).val 0 0 (k0_off6 i) (off6_eq i) _ y).2 ⟨hy, ht, hu⟩)))))))))))))))
    · exact .inr (.inr (.inr (.inr (.inr (.inr (.inr (.inr (.inr (.inr (.inr (.inr (.inr (.inr (.inl ((mem_tile (i 1).val 0 128 (k0_off7 i) (off7_eq i) _ y).2 ⟨hy, ht, hu⟩)))))))))))))))
    · exact .inr (.inr (.inr (.inr (.inr (.inr (.inr (.inr (.inr (.inr (.inr (.inr (.inr (.inl ((mem_tile (i 1).val 0 256 (k0_off8 i) (off8_eq i) _ y).2 ⟨hy, ht, hu⟩))))))))))))))
    · exact .inr (.inr (.inr (.inr (.inr (.inr (.inr (.inr (.inr (.inr (.inr (.inr (.inl ((mem_tile (i 1).val 0 384 (k0_off9 i) (off9_eq i) _ y).2 ⟨hy, ht, hu⟩)))))))))))))
    · exact .inr (.inr (.inr (.inr (.inr (.inr (.inr (.inr (.inr (.inr (.inr (.inl ((mem_tile (i 1).val 1 0 (k0_off10 i) (off10_eq i) _ y).2 ⟨hy, ht, hu⟩))))))))))))
    · exact .inr (.inr (.inr (.inr (.inr (.inr (.inr (.inr (.inr (.inr (.inl ((mem_tile (i 1).val 1 128 (k0_off11 i) (off11_eq i) _ y).2 ⟨hy, ht, hu⟩)))))))))))
    · exact .inr (.inr (.inr (.inr (.inr (.inr (.inr (.inr (.inr (.inl ((mem_tile (i 1).val 1 256 (k0_off12 i) (off12_eq i) _ y).2 ⟨hy, ht, hu⟩))))))))))
    · exact .inr (.inr (.inr (.inr (.inr (.inr (.inr (.inr (.inl ((mem_tile (i 1).val 1 384 (k0_off13 i) (off13_eq i) _ y).2 ⟨hy, ht, hu⟩)))))))))
    · exact .inr (.inr (.inr (.inr (.inr (.inr (.inr (.inl ((mem_tile (i 1).val 2 0 (k0_off14 i) (off14_eq i) _ y).2 ⟨hy, ht, hu⟩))))))))
    · exact .inr (.inr (.inr (.inr (.inr (.inr (.inl ((mem_tile (i 1).val 2 128 (k0_off15 i) (off15_eq i) _ y).2 ⟨hy, ht, hu⟩)))))))
    · exact .inr (.inr (.inr (.inr (.inr (.inl ((mem_tile (i 1).val 2 256 (k0_off16 i) (off16_eq i) _ y).2 ⟨hy, ht, hu⟩))))))
    · exact .inr (.inr (.inr (.inr (.inl ((mem_tile (i 1).val 2 384 (k0_off17 i) (off17_eq i) _ y).2 ⟨hy, ht, hu⟩)))))
    · exact .inr (.inr (.inr (.inl ((mem_tile (i 1).val 3 0 (k0_off18 i) (off18_eq i) _ y).2 ⟨hy, ht, hu⟩))))
    · exact .inr (.inr (.inl ((mem_tile (i 1).val 3 128 (k0_off19 i) (off19_eq i) _ y).2 ⟨hy, ht, hu⟩)))
    · exact .inr (.inl ((mem_tile (i 1).val 3 256 (k0_off20 i) (off20_eq i) _ y).2 ⟨hy, ht, hu⟩))
    · exact .inl ((mem_tile (i 1).val 3 384 (k0_off21 i) (off21_eq i) _ y).2 ⟨hy, ht, hu⟩)

/-- After a point of head group 0 the mask scratch holds that batch row's mask in its row block, and
what it held before elsewhere. -/
theorem read_maskC (c : Dev nD) (i : grid0.Coords) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) (h2 : k0_cond2 i = 1#1) (x7 : Vec Ideal S1x1x512 .i32)
    (f : BufTy.Contents (Elt Ideal) arg12.view.ty) (y : S4x4x512x128.Idx) :
    arg12.view.read (Elt Ideal) (maskC c i arg2 harg2 arg3 harg3 arg4 harg4 arg5 harg5 arg6 harg6 arg7 harg7 arg8 harg8 arg9 harg9 arg10 harg10 arg11 harg11 arg12 harg12 x7 f) y = if (y 0).val = (i 1).val then maskTab (segOf x7) y else arg12.view.read (Elt Ideal) f y := by
  have ha := mask_pieces c i arg2 harg2 arg3 harg3 arg4 harg4 arg5 harg5 arg6 harg6 arg7 harg7 arg8 harg8 arg9 harg9 arg10 harg10 arg11 harg11 arg12 harg12 (BitVec.ofNat 32 (i 1).val) h2 x7
  obtain ⟨hm, hc⟩ := mask_cover c i arg2 harg2 arg3 harg3 arg4 harg4 arg5 harg5 arg6 harg6 arg7 harg7 arg8 harg8 arg9 harg9 arg10 harg10 arg11 harg11 arg12 harg12 (BitVec.ofNat 32 (i 1).val) h2 x7
  unfold maskC
  rw [dif_pos h2]
  split
  · rename_i h
    exact View.read_writes_apply_of_pieces _ _ _ _ ha y (hc y h)
  · rename_i h
    exact View.read_writes_apply_of_forall_not_mem _ _ y _ fun p hp hy => h (hm p hp y hy)

end Cert.KernelIdeal.Hand
end
-- ==== Proof.Run.lean ====
module

public import proofs.«01_k».proof.Proof.Block
public import proofs.«01_k».proof.Proof.Body
public import proofs.«01_k».proof.Proof.Toep
public import proofs.«01_k».proof.Proof.MaskRead
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem coords0 (t : Fin cfg0.N) : (grid0.coords t 0).val = t.val / 4 := by
  have ht : t.val < 28 := Nat.lt_of_lt_of_eq t.isLt N_0
  have e0 : (grid0.coords t 0).val = t.val / 4 % 7 := Pipeline.Grid.coords_val t 0 (by decide) rfl
  omega

theorem coords1 (t : Fin cfg0.N) : (grid0.coords t 1).val = t.val % 4 := by
  have e1 : (grid0.coords t 1).val = t.val / 1 % 4 := Pipeline.Grid.coords_val t 1 (by decide) rfl
  omega

/-- The table of diagonals is rebuilt at the first batch row of each head group. -/
theorem hcond1 : ∀ t : Fin cfg0.N, k0_cond1 (grid0.coords t) = 1#1 ↔ t.val % 4 = 0 :=
  (fun t => by
    have ht : t.val < 28 := Nat.lt_of_lt_of_eq t.isLt N_0
    have e0 : (grid0.coords t 0).val = t.val / 4 % 7 := Pipeline.Grid.coords_val t 0 (by decide) rfl
    have e1 : (grid0.coords t 1).val = t.val / 1 % 4 := Pipeline.Grid.coords_val t 1 (by decide) rfl
    simp only [k0_cond1, e0, e1]
    word_cmp
   : ∀ t : Fin grid0.N, k0_cond1 (grid0.coords t) = 1#1 ↔ t.val % 4 = 0)

/-- The mask of a batch row is built at the points of head group 0. -/
theorem hcond2 : ∀ t : Fin cfg0.N, k0_cond2 (grid0.coords t) = 1#1 ↔ t.val < 4 :=
  (fun t => by
    have ht : t.val < 28 := Nat.lt_of_lt_of_eq t.isLt N_0
    have e0 : (grid0.coords t 0).val = t.val / 4 % 7 := Pipeline.Grid.coords_val t 0 (by decide) rfl
    have e1 : (grid0.coords t 1).val = t.val / 1 % 4 := Pipeline.Grid.coords_val t 1 (by decide) rfl
    simp only [k0_cond2, e0, e1]
    word_cmp
   : ∀ t : Fin grid0.N, k0_cond2 (grid0.coords t) = 1#1 ↔ t.val < 4)

abbrev ms0 (t : Fin cfg0.N) : Memref sig .tc .smem S4x28 .f32 := win0_0.stage (cfg0.slots t 0)
abbrev hs0 (t : Fin cfg0.N) : (ms0 t).IsWhole := hstage0_0 ((cfg0.slots t 0).cast nbuf0_0)
abbrev ms1 (t : Fin cfg0.N) : Memref sig .tc .smem S4x28 .f32 := win0_1.stage (cfg0.slots t 1)
abbrev hs1 (t : Fin cfg0.N) : (ms1 t).IsWhole := hstage0_1 ((cfg0.slots t 1).cast nbuf0_1)
abbrev ms2 (t : Fin cfg0.N) : Memref sig .tc .smem S4x28 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4x512x128 .fp8e4m3 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4x512x128 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x4x512x128 .fp8e4m3 := win0_5.stage (cfg0.slots t 5)
abbrev hs5 (t : Fin cfg0.N) : (ms5 t).IsWhole := hstage0_5 ((cfg0.slots t 5).cast nbuf0_5)
abbrev ms6 (t : Fin cfg0.N) : Memref sig .tc .vmem S28x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x512 .i32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512x512 .bf16 := win0_8.stage (cfg0.slots t 8)
abbrev hs8 (t : Fin cfg0.N) : (ms8 t).IsWhole := hstage0_8 ((cfg0.slots t 8).cast nbuf0_8)
abbrev scT : Memref sig .tc .vmem S4x112x8x128 .f32 := Memref.whole cc0_scratch0
abbrev scB : Memref sig .tc .vmem S4x4x512x128 .f32 := Memref.whole cc0_scratch1

theorem PhiA_eq (c : Dev nD) :
    (Pipeline.ΦA spec0 c : sProp 𝕄)
      = iprop(iprop((∃ d, owns (c : Thread nD τ) scT fullShare d) ∗ (∃ d, owns (c : Thread nD τ) scB fullShare d)) ∗ (∃ r, prngReg c r)) := by
  unfold Pipeline.ΦA; rw [scopedRest0_eq]; simp only [scT, scB, owns_whole]; try rfl

/-! ## What the points leave -/

/-- The bias rows and the segment words as blocks of a point. -/
def biasBlk (c : Dev nD) (t : Fin cfg0.N) : Vec Ideal S28x128 .f32 := iblk m c 6 t
def segBlk (c : Dev nD) (t : Fin cfg0.N) : Vec Ideal S1x1x512 .i32 := iblk m c 7 t

/-- The bias window is its whole array at every point. -/
theorem biasBlk_eq (c : Dev nD) (t : Fin cfg0.N) (z : S28x128.Idx) : biasBlk m c t z = V m c (Pipeline.arrRef spec0 6) z := by
  unfold biasBlk iblk
  refine congrArg (V m c (Pipeline.arrRef spec0 6)) (funext fun a => Fin.ext ?_)
  have e6 : ∀ t : Fin cfg0.N, win0_6.index t = ![0, 0] := (by decide +kernel : ∀ t : Fin grid0.N, win0_6.index t = ![0, 0])
  fin_cases a
  · blk_simp [e6]
  · blk_simp [e6]

theorem biasBlk_const (c : Dev nD) (t s : Fin cfg0.N) : biasBlk m c t = biasBlk m c s :=
  funext fun z => (biasBlk_eq m c t z).trans (biasBlk_eq m c s z).symm

/-- The point of head group 0 and batch row `b`. -/
def rowPt (b : Fin 4) : Fin cfg0.N := ⟨b.val, by have : cfg0.N = 28 := N_0; omega⟩

/-- The table of diagonals of a point. -/
def diagTab (c : Dev nD) (t : Fin cfg0.N) : Vec Ideal S4x112x8x128 .f32 := table (rowOf (grid0.coords t) (biasBlk m c t))

theorem rowOf_congr (i i' : grid0.Coords) (h : (i 0).val = (i' 0).val) (x6 : Vec Ideal S28x128 .f32) : rowOf i x6 = rowOf i' x6 := by
  funext g z
  unfold rowOf
  simp only [h]

theorem diagTab_prev (c : Dev nD) (t s : Fin cfg0.N) (h : t.val / 4 = s.val / 4) : diagTab m c t = diagTab m c s := by
  unfold diagTab
  rw [biasBlk_const m c t s]
  rw [rowOf_congr (grid0.coords t) (grid0.coords s) (by rw [coords0, coords0, h])]

/-- The mask table once every batch row has been built. -/
def maskAll (c : Dev nD) : Vec Ideal S4x4x512x128 .f32 := fun y => maskTab (segOf (segBlk m c (rowPt (y 0)))) y

/-- The output block of a point. -/
def outBlk (c : Dev nD) (t : Fin cfg0.N) : Vec Ideal S1x512x512 .bf16 :=
  blockVal (grid0.coords t) (iblk m c 0 t) (iblk m c 1 t) (iblk m c 2 t) (iblk m c 3 t) (iblk m c 4 t) (iblk m c 5 t) (diagTab m c t) (maskAll m c)

/-- The scratch tables after `k` points: the table of diagonals is the last point's, and the mask
rows of the points so far are built. -/
def okT (c : Dev nD) (k : ℕ) (d : Vec Ideal S4x112x8x128 .f32) : Prop := ∀ s : Fin cfg0.N, s.val + 1 = k → d = diagTab m c s
def okB (c : Dev nD) (k : ℕ) (d : Vec Ideal S4x4x512x128 .f32) : Prop := ∀ y : S4x4x512x128.Idx, (y 0).val < k → d y = maskAll m c y

def inv (c : Dev nD) (k : ℕ) : sProp 𝕄 :=
  iprop(iprop((∃ d, ⌜okT m c k d⌝ ∗ owns (c : Thread nD τ) scT fullShare d) ∗ (∃ d, ⌜okB m c k d⌝ ∗ owns (c : Thread nD τ) scB fullShare d)) ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk m c t
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outBlk m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## One point's step on the scratch tables and the output -/

theorem step_T (c : Dev nD) (t : Fin cfg0.N) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) (f : BufTy.Contents (Elt Ideal) arg11.view.ty) (h : okT m c t.val (arg11.view.read (Elt Ideal) f)) :
    arg11.view.read (Elt Ideal) (toepC c (grid0.coords t) arg2 harg2 arg3 harg3 arg4 harg4 arg5 harg5 arg6 harg6 arg7 harg7 arg8 harg8 arg9 harg9 arg10 harg10 arg11 harg11 arg12 harg12 (iblk m c 6 t) f) = diagTab m c t := by
  by_cases h1 : k0_cond1 (grid0.coords t) = 1#1
  · exact read_toepC c (grid0.coords t) arg2 harg2 arg3 harg3 arg4 harg4 arg5 harg5 arg6 harg6 arg7 harg7 arg8 harg8 arg9 harg9 arg10 harg10 arg11 harg11 arg12 harg12 h1 (biasBlk m c t) f
  · have h4 : ¬ t.val % 4 = 0 := fun e => h1 ((hcond1 t).2 e)
    unfold toepC
    rw [dif_neg h1, h ⟨t.val - 1, by have := t.isLt; omega⟩ (by show t.val - 1 + 1 = t.val; omega)]
    exact (diagTab_prev m c t _ (by show t.val / 4 = (t.val - 1) / 4; omega)).symm

theorem step_B (c : Dev nD) (t : Fin cfg0.N) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) (f : BufTy.Contents (Elt Ideal) arg12.view.ty) (h : okB m c t.val (arg12.view.read (Elt Ideal) f)) :
    okB m c (t.val + 1) (arg12.view.read (Elt Ideal) (maskC c (grid0.coords t) arg2 harg2 arg3 harg3 arg4 harg4 arg5 harg5 arg6 harg6 arg7 harg7 arg8 harg8 arg9 harg9 arg10 harg10 arg11 harg11 arg12 harg12 (iblk m c 7 t) f)) := by
  intro y hy
  have y4 : (y 0).val < 4 := (y 0).isLt
  by_cases h2 : k0_cond2 (grid0.coords t) = 1#1
  · have ht := (hcond2 t).1 h2
    refine (read_maskC c (grid0.coords t) arg2 harg2 arg3 harg3 arg4 harg4 arg5 harg5 arg6 harg6 arg7 harg7 arg8 harg8 arg9 harg9 arg10 harg10 arg11 harg11 arg12 harg12 h2 (segBlk m c t) f y).trans ?_
    rw [coords1]
    split
    · rename_i e
      have : rowPt (y 0) = t := Fin.ext (by show (y 0).val = t.val; omega)
      unfold maskAll
      rw [this]
    · rename_i e
      exact h y (by omega)
  · have ht : ¬ t.val < 4 := fun e => h2 ((hcond2 t).2 e)
    unfold maskC
    rw [dif_neg h2]
    exact h y (by omega)

theorem okT_succ (c : Dev nD) (t : Fin cfg0.N) (d) (h : d = diagTab m c t) : okT m c (t.val + 1) d := by
  intro s hs
  have : s = t := Fin.ext (by omega)
  rw [this, h]

/-- A block reads only its own batch row of the mask table. -/
theorem blockVal_congr (i : grid0.Coords) (x0 x1 x2 x3 x4 x5 x11) (x12 x12' : Vec Ideal S4x4x512x128 .f32)
    (h : ∀ y : S4x4x512x128.Idx, (y 0).val = (i 1).val → x12 y = x12' y) : blockVal i x0 x1 x2 x3 x4 x5 x11 x12 = blockVal i x0 x1 x2 x3 x4 x5 x11 x12' := by
  funext y
  unfold blockVal blockAt
  refine congrArg (fun s => unitVal s _ _) (funext fun j => ?_)
  unfold scoreAt
  rw [h _ rfl]

theorem out_step (c : Dev nD) (t : Fin cfg0.N) (arg2 : Memref sig .tc .smem S4x28 .f32) (harg2 : arg2.IsWhole) (arg3 : Memref sig .tc .smem S4x28 .f32) (harg3 : arg3.IsWhole) (arg4 : Memref sig .tc .smem S4x28 .f32) (harg4 : arg4.IsWhole) (arg5 : Memref sig .tc .vmem S1x4x512x128 .fp8e4m3) (harg5 : arg5.IsWhole) (arg6 : Memref sig .tc .vmem S1x4x512x128 .fp8e4m3) (harg6 : arg6.IsWhole) (arg7 : Memref sig .tc .vmem S1x4x512x128 .fp8e4m3) (harg7 : arg7.IsWhole) (arg8 : Memref sig .tc .vmem S28x128 .f32) (harg8 : arg8.IsWhole) (arg9 : Memref sig .tc .vmem S1x1x512 .i32) (harg9 : arg9.IsWhole) (arg10 : Memref sig .tc .vmem S1x512x512 .bf16) (harg10 : arg10.IsWhole) (arg11 : Memref sig .tc .vmem S4x112x8x128 .f32) (harg11 : arg11.IsWhole) (arg12 : Memref sig .tc .vmem S4x4x512x128 .f32) (harg12 : arg12.IsWhole) (f10 : BufTy.Contents (Elt Ideal) arg10.view.ty) (d11 : Vec Ideal S4x112x8x128 .f32) (d12 : Vec Ideal S4x4x512x128 .f32)
    (h11 : d11 = diagTab m c t) (h12 : okB m c (t.val + 1) d12) :
    arg10.view.read (Elt Ideal) (arg10.view.writes (Elt Ideal) f10 (tailRun (F := Ideal) c (grid0.coords t) arg2 harg2 arg3 harg3 arg4 harg4 arg5 harg5 arg6 harg6 arg7 harg7 arg8 harg8 arg9 harg9 arg10 harg10 arg11 harg11 arg12 harg12 (iblk m c 0 t) (iblk m c 1 t) (iblk m c 2 t) (iblk m c 3 t) (iblk m c 4 t) (iblk m c 5 t) d11 d12).1) = outBlk m c t := by
  rw [read_tail, h11]
  unfold outBlk
  refine blockVal_congr _ _ _ _ _ _ _ _ _ _ fun y hy => h12 y ?_
  rw [hy, coords1]
  omega

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 3200000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7]
  rw [show (dats m 0 c).Φ t.succ = inv m c (t.val + 1) from rfl, show (dats m 0 c).Φ t.castSucc = inv m c t.val from rfl,
    show (dats m 0 c).owesAt () t.succ = (dats m 0 c).owesAt () t.castSucc from rfl,
    after_0, after_1, after_2, after_3, after_4, after_5, after_6, after_7, after_8]
  unfold inv
  iintro ⟨⟨⟨⟨%d11, %h11, HS0⟩, ⟨%d12, %h12, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have B := fun K f10 f11 f12 => bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scT (Memref.isWhole_whole _) scB (Memref.isWhole_whole _) (iblk m c 0 t) (iblk m c 1 t) (iblk m c 2 t) (iblk m c 3 t) (iblk m c 4 t) (iblk m c 5 t) (iblk m c 6 t) (iblk m c 7 t) Set.univ K f10 f11 f12
  unfold owns at B ⊢
  icases HS0 with ⟨%f11, %e11, HS0⟩
  icases HS1 with ⟨%f12, %e12, HS1⟩
  icases H8 with ⟨%f10, %e10, H8⟩
  subst e11 e12
  have k11 := step_T m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scT (Memref.isWhole_whole _) scB (Memref.isWhole_whole _) f11 h11
  have k12 := step_B m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scT (Memref.isWhole_whole _) scB (Memref.isWhole_whole _) f12 h12
  have k10 := out_step m c t (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scT (Memref.isWhole_whole _) scB (Memref.isWhole_whole _) f10 _ _ k11 k12
  iapply (B _ f10 f11 f12)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexists _
        isplitr
        · ipureintro; exact okT_succ m c t _ k11
        iexists _
        isplitr
        · ipureintro; rfl
        iexact HS0
      iexists _
      isplitr
      · ipureintro; exact k12
      iexists _
      isplitr
      · ipureintro; rfl
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _
  isplitr
  · ipureintro; exact k10
  iexact H8

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- Before the first point the scratch tables are whatever they are. -/
theorem inv_zero (c : Dev nD) : (Pipeline.ΦA spec0 c : sProp 𝕄) ⊢ inv m c 0 := by
  rw [PhiA_eq]
  unfold inv
  iintro ⟨⟨⟨%d, HS0⟩, ⟨%e, HS1⟩⟩, Hg⟩
  isplitl [HS0 HS1]
  · isplitl [HS0]
    · iexists d
      isplitr
      · ipureintro; intro s hs; exact absurd hs (by omega)
      iexact HS0
    iexists e
    isplitr
    · ipureintro; intro y hy; exact absurd hy (by omega)
    iexact HS1
  iexact Hg

/-- After the last point their contents are forgotten. -/
theorem inv_last (c : Dev nD) (k : ℕ) : inv m c k ⊢ (Pipeline.ΦA spec0 c : sProp 𝕄) := by
  rw [PhiA_eq]
  unfold inv
  iintro ⟨⟨⟨%d, %h, HS0⟩, ⟨%e, %h', HS1⟩⟩, Hg⟩
  isplitl [HS0 HS1]
  · isplitl [HS0]
    · iexists d
      iexact HS0
    iexists e
    iexact HS1
  iexact Hg

-- the implicit arguments are found by unifying the conclusion with this one, which takes unfolding plain definitions
set_option backward.isDefEq.respectTransparency.types false in
set_option maxHeartbeats 800000 in
/-- The kernel's run: every array of the pipeline at what the proof data says, every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => inv_zero m c) (hout := fun c => inv_last m c _)

theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Hand
end
-- ==== Proof.Blocks.lean ====
module

public import proofs.«01_k».proof.Proof.Gen.KernelIdeal.Frame
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The batch row and the first head of point `t`. -/
theorem point_lt (t : Fin cfg0.N) : t.val < 28 := Nat.lt_of_lt_of_eq t.isLt N_0

def batchOf (t : Fin cfg0.N) : Fin 4 := ⟨t.val % 4, by omega⟩
def headAt (t : Fin cfg0.N) (g : Fin 4) : Fin 28 := ⟨4 * (t.val / 4) + g.val, by have := point_lt t; omega⟩

theorem idx0 : ∀ t : Fin cfg0.N, win0_0.index t = ![0, 0] := (by decide +kernel : ∀ t : Fin grid0.N, win0_0.index t = ![0, 0])
/-- A scale window is its whole array. -/
theorem in0 (c : Dev nD) (t : Fin cfg0.N) (z : S4x28.Idx) : (iblk m c 0 t : Vec Ideal S4x28 .f32) z = m ((c : Thread nD τ).loc main_arg1) z := by
  rw [← V_main_arg1 m c]
  unfold iblk
  refine congrArg (V m c main_arg1) (funext fun a => Fin.ext ?_)
  fin_cases a
  · blk_simp [idx0]
  · blk_simp [idx0]

theorem idx1 : ∀ t : Fin cfg0.N, win0_1.index t = ![0, 0] := (by decide +kernel : ∀ t : Fin grid0.N, win0_1.index t = ![0, 0])
/-- A scale window is its whole array. -/
theorem in1 (c : Dev nD) (t : Fin cfg0.N) (z : S4x28.Idx) : (iblk m c 1 t : Vec Ideal S4x28 .f32) z = m ((c : Thread nD τ).loc main_arg3) z := by
  rw [← V_main_arg3 m c]
  unfold iblk
  refine congrArg (V m c main_arg3) (funext fun a => Fin.ext ?_)
  fin_cases a
  · blk_simp [idx1]
  · blk_simp [idx1]

theorem idx2 : ∀ t : Fin cfg0.N, win0_2.index t = ![0, 0] := (by decide +kernel : ∀ t : Fin grid0.N, win0_2.index t = ![0, 0])
/-- A scale window is its whole array. -/
theorem in2 (c : Dev nD) (t : Fin cfg0.N) (z : S4x28.Idx) : (iblk m c 2 t : Vec Ideal S4x28 .f32) z = m ((c : Thread nD τ).loc main_arg5) z := by
  rw [← V_main_arg5 m c]
  unfold iblk
  refine congrArg (V m c main_arg5) (funext fun a => Fin.ext ?_)
  fin_cases a
  · blk_simp [idx2]
  · blk_simp [idx2]

theorem idx3 : ∀ t : Fin cfg0.N, win0_3.index t = ![t.val % 4, t.val / 4, 0, 0] := (by decide +kernel : ∀ t : Fin grid0.N, win0_3.index t = ![t.val % 4, t.val / 4, 0, 0])
/-- A block of codes is four heads of one batch row. -/
theorem in3 (c : Dev nD) (t : Fin cfg0.N) (g : Fin 4) (j : Fin 512) (x : Fin 128) :
    (iblk m c 3 t : Vec Ideal S1x4x512x128 .fp8e4m3) (ix4 0 g j x) = m ((c : Thread nD τ).loc main_arg0) (ix4 (batchOf t) j (headAt t g) x) := by
  have e : (iblk m c 3 t : Vec Ideal S1x4x512x128 .fp8e4m3) (ix4 0 g j x) = V m c main_v0 (ix4 (batchOf t) (headAt t g) j x) := by
    unfold iblk
    refine congrArg (V m c main_v0) (funext fun a => Fin.ext ?_)
    fin_cases a
    · blk_simp [idx3] <;> rfl
    · blk_simp [idx3]; show t.val / 4 * 4 + g.val = 4 * (t.val / 4) + g.val; omega
    · blk_simp [idx3] <;> rfl
    · blk_simp [idx3] <;> rfl
  rw [e]
  simp only [V, hostOps0, hostOps0_1, hostOps0_2, List.flatten_cons, List.flatten_nil, List.append_nil, List.cons_append, List.nil_append]
  entry_read
  pointwise

theorem idx4 : ∀ t : Fin cfg0.N, win0_4.index t = ![t.val % 4, t.val / 4, 0, 0] := (by decide +kernel : ∀ t : Fin grid0.N, win0_4.index t = ![t.val % 4, t.val / 4, 0, 0])
/-- A block of codes is four heads of one batch row. -/
theorem in4 (c : Dev nD) (t : Fin cfg0.N) (g : Fin 4) (j : Fin 512) (x : Fin 128) :
    (iblk m c 4 t : Vec Ideal S1x4x512x128 .fp8e4m3) (ix4 0 g j x) = m ((c : Thread nD τ).loc main_arg2) (ix4 (batchOf t) j (headAt t g) x) := by
  have e : (iblk m c 4 t : Vec Ideal S1x4x512x128 .fp8e4m3) (ix4 0 g j x) = V m c main_v1 (ix4 (batchOf t) (headAt t g) j x) := by
    unfold iblk
    refine congrArg (V m c main_v1) (funext fun a => Fin.ext ?_)
    fin_cases a
    · blk_simp [idx4] <;> rfl
    · blk_simp [idx4]; show t.val / 4 * 4 + g.val = 4 * (t.val / 4) + g.val; omega
    · blk_simp [idx4] <;> rfl
    · blk_simp [idx4] <;> rfl
  rw [e]
  simp only [V, hostOps0, hostOps0_1, hostOps0_2, List.flatten_cons, List.flatten_nil, List.append_nil, List.cons_append, List.nil_append]
  entry_read
  pointwise

theorem idx5 : ∀ t : Fin cfg0.N, win0_5.index t = ![t.val % 4, t.val / 4, 0, 0] := (by decide +kernel : ∀ t : Fin grid0.N, win0_5.index t = ![t.val % 4, t.val / 4, 0, 0])
/-- A block of codes is four heads of one batch row. -/
theorem in5 (c : Dev nD) (t : Fin cfg0.N) (g : Fin 4) (j : Fin 512) (x : Fin 128) :
    (iblk m c 5 t : Vec Ideal S1x4x512x128 .fp8e4m3) (ix4 0 g j x) = m ((c : Thread nD τ).loc main_arg4) (ix4 (batchOf t) j (headAt t g) x) := by
  have e : (iblk m c 5 t : Vec Ideal S1x4x512x128 .fp8e4m3) (ix4 0 g j x) = V m c main_v2 (ix4 (batchOf t) (headAt t g) j x) := by
    unfold iblk
    refine congrArg (V m c main_v2) (funext fun a => Fin.ext ?_)
    fin_cases a
    · blk_simp [idx5] <;> rfl
    · blk_simp [idx5]; show t.val / 4 * 4 + g.val = 4 * (t.val / 4) + g.val; omega
    · blk_simp [idx5] <;> rfl
    · blk_simp [idx5] <;> rfl
  rw [e]
  simp only [V, hostOps0, hostOps0_1, hostOps0_2, List.flatten_cons, List.flatten_nil, List.append_nil, List.cons_append, List.nil_append]
  entry_read
  pointwise

theorem idx7 : ∀ t : Fin cfg0.N, win0_7.index t = ![t.val % 4, 0, 0] := (by decide +kernel : ∀ t : Fin grid0.N, win0_7.index t = ![t.val % 4, 0, 0])
/-- A block of segment words is one batch row. -/
theorem in7 (c : Dev nD) (t : Fin cfg0.N) (j : Fin 512) :
    (iblk m c 7 t : Vec Ideal S1x1x512 .i32) (ix3 0 0 j) = m ((c : Thread nD τ).loc main_arg7) (ix2 (batchOf t) j) := by
  have e : (iblk m c 7 t : Vec Ideal S1x1x512 .i32) (ix3 0 0 j) = V m c main_v6 (ix3 (batchOf t) 0 j) := by
    unfold iblk
    refine congrArg (V m c main_v6) (funext fun a => Fin.ext ?_)
    fin_cases a
    · blk_simp [idx7] <;> rfl
    · blk_simp [idx7] <;> rfl
    · blk_simp [idx7] <;> rfl
  rw [e]
  simp only [V, hostOps0, hostOps0_1, hostOps0_2, List.flatten_cons, List.flatten_nil, List.append_nil, List.cons_append, List.nil_append]
  entry_read
  pointwise

/-- The padded bias row of a head at a lane below 32. -/
theorem bias_row (c : Dev nD) (h : Fin 28) (l : Fin 128) (hl : l.val < 32) :
    (V m c main_v5 : Vec Ideal S28x128 .f32) (ix2 h l) = m ((c : Thread nD τ).loc main_arg6) (ix2 ⟨l.val, hl⟩ h) := by
  simp only [V, hostOps0, hostOps0_1, hostOps0_2, List.flatten_cons, List.flatten_nil, List.append_nil, List.cons_append, List.nil_append]
  entry_read
  show (pad S28x128 ![0, 0] ![0, 96] ![0, 0]
        (extf FTy.f32 (transpose S28x32 [1, 0] (m ((c : Thread nD τ).loc main_arg6) : Vec Ideal S32x28 .bf16) transposes_S32x28_S28x32_1_0) bitsLt_bf16_f32 : FVec Ideal S28x32 .f32)
        (sitofp FTy.f32 (constantI S_ 32 0#32) : FVec Ideal S_ .f32) pads_S28x32_S28x128_000_0960 h_S_ : Vec Ideal S28x128 .f32) (ix2 h l) = _
  pointwise
  exact dif_pos hl

end Cert.KernelIdeal.Hand
end
-- ==== Proof.RowVal.lean ====
module

public import proofs.«01_k».proof.Proof.RowCodes

@[expose] public section

noncomputable section

namespace Cert.Row

open Idealize.ShloMosaic

/-- The greatest element of a row, as a reduction finds it. -/
def top (s : Fin 512 → EReal) : EReal := Finset.fold max (Ideal.ofBits .f32 0xFF800000#32) s Finset.univ

theorem isMax_top (s : Fin 512 → EReal) : IsMax s (top s) := by
  have h : Ideal.ofBits .f32 0xFF800000#32 = ⊥ := by
    show Ideal.ieee 8 23 0xFF800000#32 = ⊥
    unfold Ideal.ieee
    have h1 : ((0xFF800000#32 : BitVec 32).extractLsb' (8 + 23) 1 == 1#1) = true := by decide
    have h2 : ((0xFF800000#32 : BitVec 32).extractLsb' 23 8).toNat = 255 := by decide
    have h3 : ((0xFF800000#32 : BitVec 32).extractLsb' 0 23).toNat = 0 := by decide
    simp [h1, h2, h3]
  unfold top
  rw [h]
  exact isMax_fold s

/-- A row of probabilities. -/
def prob (s : Fin 512 → EReal) (j : Fin 512) : EReal := ex s (top s) j * rec s (top s)

/-- The value of an attention row in the reference: the quantised probabilities against the values, then scaled back. -/
def refVal (s v : Fin 512 → EReal) (vs : EReal) : EReal :=
  (∑ j, rcode (prob s j) (top (prob s)) * v j) * (Ideal.exp2 (expo (top (prob s))) * vs)

theorem two_eq : Ideal.ofBits .f32 0x40000000#32 = ((2 : ℝ) : EReal) := by
  show Ideal.ieee 8 23 0x40000000#32 = _
  unfold Ideal.ieee
  have h1 : ((0x40000000#32 : BitVec 32).extractLsb' (8 + 23) 1 == 1#1) = false := by decide
  have h2 : ((0x40000000#32 : BitVec 32).extractLsb' 23 8).toNat = 128 := by decide
  have h3 : ((0x40000000#32 : BitVec 32).extractLsb' 0 23).toNat = 0 := by decide
  simp only [h1, h2, h3]
  norm_num

/-- The exponent with its comparison written as an order. -/
theorem expo_eq (a : EReal) : expo a =
    if 0 < a then Ideal.liftRound Int.floor (Ideal.div (Ideal.log (a * c)) (Ideal.log (Ideal.ofBits .f32 0x40000000#32))) + 1 else 0 := by
  rw [two_eq]
  unfold expo
  by_cases h : 0 < a
  · rw [if_pos h, if_pos (by simp [Ideal.cmp, h])]
  · rw [if_neg h, if_neg (by simp [Ideal.cmp, h])]

end Cert.Row

end
-- ==== Proof.Meaning.lean ====
module

public import proofs.«01_k».proof.Proof.RowVal
public import Idealize.ShloMosaic.Lib.Pointwise

@[expose] public section

noncomputable section

namespace Cert.Row

open Idealize.ShloMosaic

/-- The reference's bucket of a signed distance, as a word. -/
def refBucket (d : BitVec 32) : BitVec 32 :=
  IntOp.addi (Scalar.select (IntOp.cmpi .sgt d 0#32) 16#32 0#32)
    (Scalar.select (IntOp.cmpi .slt (IntOp.absi d) 8#32) (IntOp.absi d)
      (IntOp.addi 8#32 (IntOp.addi (IntOp.addi (IntOp.addi (IntOp.addi (IntOp.addi (IntOp.addi (IntOp.addi 0#32
        (BitVec.setWidth 32 (IntOp.cmpi .sge (IntOp.absi d) 12#32)))
        (BitVec.setWidth 32 (IntOp.cmpi .sge (IntOp.absi d) 16#32)))
        (BitVec.setWidth 32 (IntOp.cmpi .sge (IntOp.absi d) 23#32)))
        (BitVec.setWidth 32 (IntOp.cmpi .sge (IntOp.absi d) 32#32)))
        (BitVec.setWidth 32 (IntOp.cmpi .sge (IntOp.absi d) 46#32)))
        (BitVec.setWidth 32 (IntOp.cmpi .sge (IntOp.absi d) 64#32)))
        (BitVec.setWidth 32 (IntOp.cmpi .sge (IntOp.absi d) 91#32)))))

/-- The row of the bias table it selects: a negative word counts from the end, and the row is clamped to the table. -/
def refRow (d : BitVec 32) : Fin 32 :=
  ⟨min (Scalar.select (IntOp.cmpi .slt (refBucket d) 0#32) (IntOp.addi (refBucket d) 32#32) (refBucket d)).toInt.toNat 31, by omega⟩

/-- The score of query `i` against key `j` in head `h` of batch row `b`: `-∞` between two segments. -/
def score (q k : Fin 4 → Fin 512 → Fin 28 → Fin 128 → EReal) (qs ks : Fin 4 → Fin 28 → EReal) (bias : Fin 32 → Fin 28 → EReal)
    (seg : Fin 4 → Fin 512 → BitVec 32) (b : Fin 4) (h : Fin 28) (i j : Fin 512) : EReal :=
  if seg b i = seg b j then
    (∑ x, q b i h x * k b j h x) * (qs b h * ks b h) + bias (refRow (IntOp.subi (BitVec.ofNat 32 j.val) (BitVec.ofNat 32 i.val))) h
  else ⊥

/-- The attention result at batch row `b`, query `i` and output column `y`, which is head `y / 128`, lane `y % 128`. -/
def attn (q k v : Fin 4 → Fin 512 → Fin 28 → Fin 128 → EReal) (qs ks vs : Fin 4 → Fin 28 → EReal) (bias : Fin 32 → Fin 28 → EReal)
    (seg : Fin 4 → Fin 512 → BitVec 32) (b : Fin 4) (i : Fin 512) (y : Fin 3584) : EReal :=
  refVal (score q k qs ks bias seg b ⟨y.val / 128, by omega⟩ i) (fun j => v b j ⟨y.val / 128, by omega⟩ ⟨y.val % 128, by omega⟩)
    (vs b ⟨y.val / 128, by omega⟩)

theorem refVal_congr {s s' v v' : Fin 512 → EReal} {a a' : EReal} (hs : ∀ j, s j = s' j) (hv : ∀ j, v j = v' j) (ha : a = a') : refVal s v a = refVal s' v' a' := by
  rw [funext hs, funext hv, ha]

end Cert.Row

end
-- ==== Proof.Bucket.lean ====
module

public import proofs.«01_k».proof.Proof.Toep
public import proofs.«01_k».proof.Proof.Meaning

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 4000000 in
theorem rows_agree : ∀ n : Fin 1023, (lane (IntOp.subi (BitVec.ofNat 32 n.val) 511#32)).val = (Row.refRow (IntOp.subi (BitVec.ofNat 32 n.val) 511#32)).val := by
  decide +kernel

/-- The distance of a key from a query, one subtraction. -/
theorem dist_shift (i j : Fin 512) :
    IntOp.subi (BitVec.ofNat 32 j.val) (BitVec.ofNat 32 i.val) = IntOp.subi (BitVec.ofNat 32 (j.val + 511 - i.val)) 511#32 := by
  show BitVec.ofNat 32 j.val - BitVec.ofNat 32 i.val = BitVec.ofNat 32 (j.val + 511 - i.val) - 511#32
  apply BitVec.eq_of_toNat_eq
  simp only [BitVec.toNat_sub, BitVec.toNat_ofNat]
  omega

/-- The kernel's lane of a distance is the reference's row of the bias table. -/
theorem lane_eq (i j : Fin 512) : (lane (IntOp.subi (BitVec.ofNat 32 j.val) (BitVec.ofNat 32 i.val))).val
    = (Row.refRow (IntOp.subi (BitVec.ofNat 32 j.val) (BitVec.ofNat 32 i.val))).val := by
  rw [dist_shift]
  exact rows_agree ⟨j.val + 511 - i.val, by omega⟩

/-- The table's distance at key `j` for query lane `l` of query tile `t`. -/
theorem dist_eq (t : Fin 4) (l : Fin 128) (j : Fin 512) :
    dist (48 - 16 * t.val + j.val / 8) (j.val % 8) l.val = IntOp.subi (BitVec.ofNat 32 j.val) (BitVec.ofNat 32 (128 * t.val + l.val)) := by
  show (BitVec.ofNat 32 (48 - 16 * t.val + j.val / 8) - 48#32) * 8#32 + BitVec.ofNat 32 (j.val % 8) - BitVec.ofNat 32 l.val
    = BitVec.ofNat 32 j.val - BitVec.ofNat 32 (128 * t.val + l.val)
  apply BitVec.eq_of_toNat_eq
  simp only [BitVec.toNat_sub, BitVec.toNat_add, BitVec.toNat_mul, BitVec.toNat_ofNat]
  omega

end Cert.KernelIdeal.Hand
end
-- ==== Proof.RowEq.lean ====
module

public import proofs.«01_k».proof.Proof.Unit
public import proofs.«01_k».proof.Proof.RowVal

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The kernel's row on scores scaled by `log2 e` is the reference's row: the base-2 exponentials are the exponentials,
    the greatest probability is the reciprocal of their sum, and the two scales agree or every code is zero. -/
theorem unitVal_eq (s t v : Fin 512 → EReal) (vs : EReal) (h : ∀ j, t j = Row.L * s j) : unitVal t v vs = Row.refVal s v vs := by
  have hm := Row.isMax_top s
  have hn : Row.IsMax t (top t) := Row.isMax_top t
  have he : ∀ j, ex2 t j = Row.ex s (Row.top s) j := fun j => Row.ex_base2 h hm hn j
  obtain ⟨hc, hs⟩ := Row.codes (by simp) hm (Row.isMax_top (Row.prob s))
  have hr : Ideal.div 1 (∑ j, ex2 t j) = Row.rec s (Row.top s) := by
    unfold Row.rec
    exact congrArg (Ideal.div 1) (Finset.sum_congr rfl fun j _ => he j)
  unfold unitVal Row.refVal
  rw [hr]
  have hsum : (∑ j, v j * Row.kcode (ex2 t j) (Row.rec s (Row.top s))) = ∑ j, Row.rcode (Row.prob s j) (Row.top (Row.prob s)) * v j :=
    Finset.sum_congr rfl fun j _ => by
      rw [he j, hc j]
      exact mul_comm _ _
  rw [hsum]
  rcases hs with hs | hs
  · rw [hs]
  · have h0 : (∑ j, Row.rcode (Row.prob s j) (Row.top (Row.prob s)) * v j) = 0 :=
      Finset.sum_eq_zero fun j _ => by
        have := hs j
        unfold Row.prob at this ⊢
        rw [this, zero_mul]
    rw [h0, zero_mul, zero_mul]

end Cert.KernelIdeal.Hand
end
-- ==== Proof.Tables.lean ====
module

public import proofs.«01_k».proof.Proof.Run
public import proofs.«01_k».proof.Proof.Blocks
public import proofs.«01_k».proof.Proof.Bucket
public import proofs.«01_k».proof.Proof.RowEq
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The arguments by coordinates. -/
def aq (c : Dev nD) (b : Fin 4) (i : Fin 512) (h : Fin 28) (x : Fin 128) : EReal := m ((c : Thread nD τ).loc main_arg0) (ix4 b i h x)
def aqs (c : Dev nD) (b : Fin 4) (h : Fin 28) : EReal := m ((c : Thread nD τ).loc main_arg1) (ix2 b h)
def ak (c : Dev nD) (b : Fin 4) (i : Fin 512) (h : Fin 28) (x : Fin 128) : EReal := m ((c : Thread nD τ).loc main_arg2) (ix4 b i h x)
def aks (c : Dev nD) (b : Fin 4) (h : Fin 28) : EReal := m ((c : Thread nD τ).loc main_arg3) (ix2 b h)
def av (c : Dev nD) (b : Fin 4) (i : Fin 512) (h : Fin 28) (x : Fin 128) : EReal := m ((c : Thread nD τ).loc main_arg4) (ix4 b i h x)
def avs (c : Dev nD) (b : Fin 4) (h : Fin 28) : EReal := m ((c : Thread nD τ).loc main_arg5) (ix2 b h)
def abias (c : Dev nD) (l : Fin 32) (h : Fin 28) : EReal := m ((c : Thread nD τ).loc main_arg6) (ix2 l h)
def aseg (c : Dev nD) (b : Fin 4) (j : Fin 512) : BitVec 32 := m ((c : Thread nD τ).loc main_arg7) (ix2 b j)

/-- The result array. -/
def result (c : Dev nD) (y : S4x512x3584.Idx) : EReal :=
  Row.attn (aq m c) (ak m c) (av m c) (aqs m c) (aks m c) (avs m c) (abias m c) (aseg m c) (y 0) (y 1) (y 2)

/-- The diagonal table at key `j` of query `128 t + l`: the head's bias at the bucket of the distance, scaled. -/
theorem diag_read (c : Dev nD) (p : Fin cfg0.N) (g t : Fin 4) (l : Fin 128) (j : Fin 512) :
    diagTab m c p (ix4 g ⟨48 - 16 * t.val + j.val / 8, by omega⟩ ⟨j.val % 8, by omega⟩ l)
      = abias m c (Row.refRow (IntOp.subi (BitVec.ofNat 32 j.val) (BitVec.ofNat 32 (128 * t.val + l.val)))) (headAt p g) * Row.L := by
  have hl := lane_eq ⟨128 * t.val + l.val, by omega⟩ j
  have hd := dist_eq t l j
  have hh : (⟨4 * (grid0.coords p 0).val + g.val, by rw [coords0]; have := point_lt p; omega⟩ : Fin 28) = headAt p g := Fin.ext (by
    show 4 * (grid0.coords p 0).val + g.val = 4 * (p.val / 4) + g.val
    rw [coords0])
  show biasBlk m c p (ix2 ⟨4 * (grid0.coords p 0).val + g.val, _⟩ (lane (dist (48 - 16 * t.val + j.val / 8) (j.val % 8) l.val))) * Row.L = _
  rw [hh, hd, biasBlk_eq]
  refine congrArg (· * Row.L) ?_
  refine (bias_row m c (headAt p g) _ (by rw [hl]; exact Fin.isLt _)).trans ?_
  unfold abias
  exact congrArg (fun r => m ((c : Thread nD τ).loc main_arg6) (ix2 r (headAt p g))) (Fin.ext hl)

/-- The mask at key `j` of query `128 t + l` in batch row `b`. -/
theorem mask_read (c : Dev nD) (b t : Fin 4) (l : Fin 128) (j : Fin 512) :
    maskAll m c (ix4 b t j l) = maskOf (aseg m c b j) (aseg m c b ⟨128 * t.val + l.val, by omega⟩) := by
  have hb : batchOf (rowPt b) = b := Fin.ext (Nat.mod_eq_of_lt b.isLt)
  have h : ∀ j, segOf (segBlk m c (rowPt b)) j = aseg m c b j := fun j => by
    refine (in7 m c (rowPt b) j).trans ?_
    rw [hb]; rfl
  show maskOf (segOf (segBlk m c (rowPt b)) j) (segOf (segBlk m c (rowPt b)) ⟨128 * t.val + l.val, _⟩) = _
  rw [h, h]

end Cert.KernelIdeal.Hand
end
-- ==== Proof.Array.lean ====
module

public import proofs.«01_k».proof.Proof.Tables

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- One kernel score is the plain score times `1 / log 2`. -/
theorem score_eq (c : Dev nD) (p : Fin cfg0.N) (g t : Fin 4) (l : Fin 128) (j : Fin 512) :
    scoreAt (grid0.coords p) (iblk m c 0 p) (iblk m c 1 p) (iblk m c 3 p) (iblk m c 4 p) (diagTab m c p) (maskAll m c) g t l j
      = Row.L * Row.score (aq m c) (ak m c) (aqs m c) (aks m c) (abias m c) (aseg m c) (batchOf p) (headAt p g) ⟨128 * t.val + l.val, by omega⟩ j := by
  have hb : (grid0.coords p 1 : Fin 4) = batchOf p := Fin.ext (coords1 p)
  have hh : headOf (grid0.coords p) g = headAt p g := Fin.ext (by
    show 4 * (grid0.coords p 0).val + g.val = 4 * (p.val / 4) + g.val
    rw [coords0])
  have hq : ∀ x, (iblk m c 3 p : Vec Ideal S1x4x512x128 .fp8e4m3) (ix4 0 g ⟨128 * t.val + l.val, by omega⟩ x) = aq m c (batchOf p) ⟨128 * t.val + l.val, by omega⟩ (headAt p g) x :=
    fun x => in3 m c p g _ x
  have hk : ∀ x, (iblk m c 4 p : Vec Ideal S1x4x512x128 .fp8e4m3) (ix4 0 g j x) = ak m c (batchOf p) j (headAt p g) x := fun x => in4 m c p g j x
  have h0 : (iblk m c 0 p : Vec Ideal S4x28 .f32) (ix2 (batchOf p) (headAt p g)) = aqs m c (batchOf p) (headAt p g) := in0 m c p _
  have h1 : (iblk m c 1 p : Vec Ideal S4x28 .f32) (ix2 (batchOf p) (headAt p g)) = aks m c (batchOf p) (headAt p g) := in1 m c p _
  unfold scoreAt
  rw [hb, hh, diag_read, mask_read, h0, h1]
  simp only [hq, hk]
  have hs : (∑ x : Fin 128, ak m c (batchOf p) j (headAt p g) x * aq m c (batchOf p) ⟨128 * t.val + l.val, by omega⟩ (headAt p g) x)
      = ∑ x : Fin 128, aq m c (batchOf p) ⟨128 * t.val + l.val, by omega⟩ (headAt p g) x * ak m c (batchOf p) j (headAt p g) x :=
    Finset.sum_congr rfl fun x _ => mul_comm _ _
  rw [hs]
  unfold Row.score maskOf
  by_cases h : aseg m c (batchOf p) ⟨128 * t.val + l.val, by omega⟩ = aseg m c (batchOf p) j
  · rw [if_pos h, if_pos h.symm, add_zero, Row.L_mul_add]
    refine congrArg₂ (· + ·) ?_ (mul_comm _ _)
    rw [← mul_assoc]
    exact mul_comm _ _
  · rw [if_neg h, if_neg (Ne.symm h), Row.L_mul_bot, EReal.add_bot]

/-- The output block of a point, at query `i` and column `y` of the block. -/
theorem out_eq (c : Dev nD) (p : Fin cfg0.N) (i y : Fin 512) : outBlk m c p (ix3 0 i y) =
    Row.attn (aq m c) (ak m c) (av m c) (aqs m c) (aks m c) (avs m c) (abias m c) (aseg m c) (batchOf p) i ⟨512 * (p.val / 4) + y.val, by have := point_lt p; omega⟩ := by
  have hp := point_lt p
  have hb : (grid0.coords p 1 : Fin 4) = batchOf p := Fin.ext (coords1 p)
  have hh : headOf (grid0.coords p) ⟨y.val / 128, by omega⟩ = headAt p ⟨y.val / 128, by omega⟩ := Fin.ext (by
    show 4 * (grid0.coords p 0).val + y.val / 128 = 4 * (p.val / 4) + y.val / 128
    rw [coords0])
  have h2 : (iblk m c 2 p : Vec Ideal S4x28 .f32) (ix2 (batchOf p) (headAt p ⟨y.val / 128, by omega⟩)) = avs m c (batchOf p) (headAt p ⟨y.val / 128, by omega⟩) := in2 m c p _
  have h5 : ∀ j, (iblk m c 5 p : Vec Ideal S1x4x512x128 .fp8e4m3) (ix4 0 ⟨y.val / 128, by omega⟩ j ⟨y.val % 128, by omega⟩) = av m c (batchOf p) j (headAt p ⟨y.val / 128, by omega⟩) ⟨y.val % 128, by omega⟩ :=
    fun j => in5 m c p _ j _
  show blockAt (grid0.coords p) (iblk m c 0 p) (iblk m c 1 p) (iblk m c 2 p) (iblk m c 3 p) (iblk m c 4 p) (iblk m c 5 p) (diagTab m c p) (maskAll m c)
    ⟨y.val / 128, _⟩ ⟨i.val / 128, _⟩ ⟨i.val % 128, _⟩ ⟨y.val % 128, _⟩ = _
  unfold blockAt
  rw [hb, hh, h2]
  refine (unitVal_eq _ _ _ _ fun j => score_eq m c p ⟨y.val / 128, by omega⟩ ⟨i.val / 128, by omega⟩ ⟨i.val % 128, by omega⟩ j).trans ?_
  have e1 : headAt p ⟨y.val / 128, by omega⟩ = ⟨(512 * (p.val / 4) + y.val) / 128, by omega⟩ := Fin.ext (by
    show 4 * (p.val / 4) + y.val / 128 = (512 * (p.val / 4) + y.val) / 128
    omega)
  have e2 : (⟨128 * (i.val / 128) + i.val % 128, by omega⟩ : Fin 512) = i := Fin.ext (by
    show 128 * (i.val / 128) + i.val % 128 = i.val
    omega)
  have e3 : (⟨y.val % 128, by omega⟩ : Fin 128) = ⟨(512 * (p.val / 4) + y.val) % 128, by omega⟩ := Fin.ext (by
    show y.val % 128 = (512 * (p.val / 4) + y.val) % 128
    omega)
  refine Row.refVal_congr (fun j => ?_) (fun j => (h5 j).trans ?_) ?_
  · rw [e1, e2]
  · rw [e1, e3]
  · rw [e1]

/-- The blocks of the result window: batch row, then the columns of four heads. -/
theorem idx8 : ∀ t : Fin cfg0.N, win0_8.index t = ![t.val % 4, 0, t.val / 4] := (by decide +kernel : ∀ t : Fin grid0.N, win0_8.index t = ![t.val % 4, 0, t.val / 4])

/-- A block entry is the result's entry at the place the block puts it. -/
theorem out_at (c : Dev nD) (t : Fin cfg0.N) (y : S1x512x512.Idx) (z : S4x512x3584.Idx) (h0 : (z 0).val = t.val % 4) (h1 : (z 1).val = (y 1).val)
    (h2 : (z 2).val = 512 * (t.val / 4) + (y 2).val) : outBlk m c t y = result m c z := by
  have ht := point_lt t
  have hy1 : (y 1).val < 512 := (y 1).isLt
  have hy2 : (y 2).val < 512 := (y 2).isLt
  have hy0 : (y 0).val < 1 := (y 0).isLt
  have e : y = ix3 0 ⟨(y 1).val, hy1⟩ ⟨(y 2).val, hy2⟩ := funext fun a => Fin.ext (by
    fin_cases a
    · show (y 0).val = 0; omega
    · rfl
    · rfl)
  have ez : z = ix3 (batchOf t) ⟨(y 1).val, hy1⟩ ⟨512 * (t.val / 4) + (y 2).val, by omega⟩ := funext fun a => Fin.ext (by
    fin_cases a
    · exact h0
    · exact h1
    · exact h2)
  have hr : result m c (ix3 (batchOf t) ⟨(y 1).val, hy1⟩ ⟨512 * (t.val / 4) + (y 2).val, by omega⟩) = Row.attn (aq m c) (ak m c) (av m c) (aqs m c) (aks m c) (avs m c) (abias m c) (aseg m c) (batchOf t) ⟨(y 1).val, hy1⟩ ⟨512 * (t.val / 4) + (y 2).val, by omega⟩ := by
    rfl
  exact (congrArg (outBlk m c t) e).trans ((out_eq m c t ⟨(y 1).val, hy1⟩ ⟨(y 2).val, hy2⟩).trans (hr.symm.trans (congrArg (result m c) ez).symm))

/-- The kernel's result array. -/
theorem final_o (c : Dev nD) : (dats m 0 c).arrAt 8 cfg0.N = (result m c : S4x512x3584.Idx → EReal) := by
  refine (dats m 0 c).arrAt_eq_of_covers 8 _ (by decide +kernel) fun t hf y => ?_
  rw [after_8]
  refine (cast_eq _ _).trans ?_
  refine out_at m c t _ _ ?_ ?_ ?_
  · blk_simp [idx8] <;> rfl
  · blk_simp [idx8] <;> rfl
  · blk_simp [idx8]; show t.val / 4 * 512 + (y 2).val = 512 * (t.val / 4) + (y 2).val; omega

/-- The run: the result array ends at the result of the argument arrays, which end unchanged. -/
theorem value (ρ : Dev nD → PrngReg) : θ_run defs (onTc (τ := τ) (main (F := Ideal))) ⟨m, fun _ => 0, ρ⟩ (fun r => ∀ c : Dev nD,
      r.2.mem ((c.tc : Thread nD τ).loc main_v7) = (result m c : S4x512x3584.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (θ_run_and (frame_of m ρ (dats m) (A_eq m) (run_main m ρ)) (run_main m ρ))
  refine ⟨?_, h.1 c⟩
  exact (Pipeline.FramePost.out_eq h.2 c 8).trans (final_o m c)

end Cert.KernelIdeal.Hand
end
-- ==== Proof.RefGather.lean ====
module

public import proofs.«01_k».proof.Proof.Gen.ReferenceIdeal.Skeleton
public import Idealize.ShloMosaic.Lib.Pointwise

@[expose] public section

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A row of the table looked up by the words of a square array, read at an index. -/
theorem gather_apply (x : Vec Ideal S32x28 .bf16) (idx : IVec S512x512x1 32) (i j : Fin 512) (h : Fin 28) :
    Host.gather gather_S32x28_S512x512x1_S512x512x28_2_0_n_n_0_2_128 x idx (ix3 i j h)
      = x (ix2 ⟨min (idx (ix3 i j 0)).toInt.toNat 31, by omega⟩ h) := by
  unfold Host.gather
  refine congrArg x (funext fun a => Fin.ext ?_)
  show gather_S32x28_S512x512x1_S512x512x28_2_0_n_n_0_2_128.start (ix3 i j h) idx a
    + gather_S32x28_S512x512x1_S512x512x28_2_0_n_n_0_2_128.batchCoord (ix3 i j h) a
    + gather_S32x28_S512x512x1_S512x512x28_2_0_n_n_0_2_128.offCoord (ix3 i j h) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S32x28_S512x512x1_S512x512x28_2_0_n_n_0_2_128.startIndexMap from List.mem_singleton.mpr rfl)]
    have hsi : gather_S32x28_S512x512x1_S512x512x28_2_0_n_n_0_2_128.siIdx (ix3 i j h) ⟨List.idxOf (0 : Fin 2) gather_S32x28_S512x512x1_S512x512x28_2_0_n_n_0_2_128.startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi]
    rfl
  · unfold GatherDims.start GatherDims.offCoord
    have n1 : ¬ ((1 : Fin 2) ∈ gather_S32x28_S512x512x1_S512x512x28_2_0_n_n_0_2_128.startIndexMap) := fun h => absurd (List.mem_singleton.mp h) (by decide)
    have p1 : (1 : Fin 2) ∈ gather_S32x28_S512x512x1_S512x512x28_2_0_n_n_0_2_128.sKept :=
      (GatherDims.mem_sKept _ _).mpr ⟨fun h => absurd (List.mem_singleton.mp h) (by decide), List.not_mem_nil⟩
    rw [dif_neg n1, dif_pos p1, Nat.zero_add]
    rfl

end Cert.ReferenceIdeal.Hand
end
-- ==== Proof.RefHost.lean ====
module

public import proofs.«01_k».proof.Proof.Gen.ReferenceIdeal.Frame
public import Idealize.ShloMosaic.Lib.Pointwise
public import Idealize.ShloMosaic.Lib.Claim
public import proofs.«01_k».proof.Proof.RefGather
public import proofs.«01_k».proof.Proof.Meaning
public import Idealize.ShloMosaic.Lib.Pipeline.ValueKit

@[expose] public section

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- A flattened array of heads, read at a batch row and a head. -/
theorem host61 (c : Dev nD) (h : Fin 112) (i : Fin 512) (d : Fin 128) :
    (V m c main_v61 : Vec Ideal S112x512x128 .fp8e4m3) (ix3 h i d) = m ((c : Thread nD τ).loc main_arg0) (ix4 ⟨h.val / 28, by omega⟩ i ⟨h.val % 28, by omega⟩ d) := by
  simp only [V, hostOps0, hostOps0_1, hostOps0_2, hostOps0_3, hostOps0_4, List.flatten_cons, List.flatten_nil, List.append_nil, List.cons_append, List.nil_append]
  entry_read
  pointwise
/-- A flattened array of heads, read at a batch row and a head. -/
theorem host63 (c : Dev nD) (h : Fin 112) (i : Fin 512) (d : Fin 128) :
    (V m c main_v63 : Vec Ideal S112x512x128 .fp8e4m3) (ix3 h i d) = m ((c : Thread nD τ).loc main_arg2) (ix4 ⟨h.val / 28, by omega⟩ i ⟨h.val % 28, by omega⟩ d) := by
  simp only [V, hostOps0, hostOps0_1, hostOps0_2, hostOps0_3, hostOps0_4, List.flatten_cons, List.flatten_nil, List.append_nil, List.cons_append, List.nil_append]
  entry_read
  pointwise
/-- A flattened array of heads, read at a batch row and a head. -/
theorem host65 (c : Dev nD) (h : Fin 112) (i : Fin 512) (d : Fin 128) :
    (V m c main_v65 : Vec Ideal S112x512x128 .fp8e4m3) (ix3 h i d) = m ((c : Thread nD τ).loc main_arg4) (ix4 ⟨h.val / 28, by omega⟩ i ⟨h.val % 28, by omega⟩ d) := by
  simp only [V, hostOps0, hostOps0_1, hostOps0_2, hostOps0_3, hostOps0_4, List.flatten_cons, List.flatten_nil, List.append_nil, List.cons_append, List.nil_append]
  entry_read
  pointwise
theorem host67 (c : Dev nD) (b : Fin 4) (h : Fin 28) :
    (V m c main_v67 : Vec Ideal S4x28x1x1 .f32) (ix4 b h 0 0) = (show EReal from m ((c : Thread nD τ).loc main_arg1) (ix2 b h)) * (show EReal from m ((c : Thread nD τ).loc main_arg3) (ix2 b h)) := by
  simp only [V, hostOps0, hostOps0_1, hostOps0_2, hostOps0_3, hostOps0_4, List.flatten_cons, List.flatten_nil, List.append_nil, List.cons_append, List.nil_append]
  entry_read
  pointwise
theorem host68 (c : Dev nD) (b : Fin 4) (h : Fin 28) :
    (V m c main_v68 : Vec Ideal S4x28x1x1 .f32) (ix4 b h 0 0) = m ((c : Thread nD τ).loc main_arg5) (ix2 b h) := by
  simp only [V, hostOps0, hostOps0_1, hostOps0_2, hostOps0_3, hostOps0_4, List.flatten_cons, List.flatten_nil, List.append_nil, List.cons_append, List.nil_append]
  entry_read
  pointwise
theorem host70 (c : Dev nD) (b : Fin 4) (i j : Fin 512) :
    (V m c main_v70 : Vec Ideal S4x1x512x512 .i32) (ix4 b 0 i j) = BitVec.setWidth 32 (IntOp.cmpi CmpIPredicate.eq ((m ((c : Thread nD τ).loc main_arg7) : Vec Ideal S4x512 .i32) (ix2 b i)) ((m ((c : Thread nD τ).loc main_arg7) : Vec Ideal S4x512 .i32) (ix2 b j))) := by
  simp only [V, hostOps0, hostOps0_1, hostOps0_2, hostOps0_3, hostOps0_4, List.flatten_cons, List.flatten_nil, List.append_nil, List.cons_append, List.nil_append]
  entry_read
  pointwise
theorem host69 (c : Dev nD) (h : Fin 28) (i j : Fin 512) :
    (V m c main_v69 : Vec Ideal S1x28x512x512 .bf16) (ix4 0 h i j) = m ((c : Thread nD τ).loc main_arg6) (ix2 (Row.refRow (IntOp.subi (BitVec.ofNat 32 j.val) (BitVec.ofNat 32 i.val))) h) := by
  simp only [V, hostOps0, hostOps0_1, hostOps0_2, hostOps0_3, hostOps0_4, List.flatten_cons, List.flatten_nil, List.append_nil, List.cons_append, List.nil_append]
  entry_read
  simp only [StableHlo.TRef.ofBuf_toBuf, StableHlo.TRef.ofBuf, StableHlo.TRef.toBuf, cast_eq]
  pointwise
  rw [gather_apply]
  pointwise
  rfl

end Cert.ReferenceIdeal.Hand
end
-- ==== Proof.RefBody.lean ====
module

public import proofs.«01_k».proof.Proof.Gen.ReferenceIdeal.Skeleton
public import Idealize.ShloMosaic.Lib.Pointwise
public import proofs.«01_k».proof.Proof.RowVal

@[expose] public section

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The scores of the reference. -/
def scores (v0 : Vec Ideal S112x512x128 .fp8e4m3) (v2 : Vec Ideal S112x512x128 .fp8e4m3) (v6 : Vec Ideal S4x28x1x1 .f32) (v10 : Vec Ideal S1x28x512x512 .bf16) (v15 : Vec Ideal S4x1x512x512 .i32) : FVec Ideal S4x28x512x512 .f32 :=
  have v1 : FVec Ideal S112x512x128 .fp8e4m3 := shapeCast S112x512x128 v0 shapeCasts_S112x512x128_S112x512x128
  have v3 : FVec Ideal S112x512x128 .fp8e4m3 := shapeCast S112x512x128 v2 shapeCasts_S112x512x128_S112x512x128
  have v5 : FVec Ideal S4x28x512x512 .f32 := shapeCast S4x28x512x512 (matmul dot_S112x512x128_S112x512x128_S112x512x512_2_2_1_1_0_0 none v1 v3 (constant S112x512x512 .f32 0x00000000#32)) shapeCasts_S112x512x512_S4x28x512x512
  have v7 : FVec Ideal S4x28x1x1 .f32 := shapeCast S4x28x1x1 v6 shapeCasts_S4x28x1x1_S4x28x1x1
  have v11 : FVec Ideal S1x28x512x512 .bf16 := shapeCast S1x28x512x512 v10 shapeCasts_S1x28x512x512_S1x28x512x512
  have v14 : FVec Ideal S4x28x512x512 .f32 := addf (mulf v5 (broadcastTo S4x28x512x512 v7 broadcasts_S4x28x1x1_S4x28x512x512)) (broadcastTo S4x28x512x512 (extf .f32 v11 bitsLt_bf16_f32) broadcasts_S1x28x512x512_S4x28x512x512)
  have v16 : IVec S4x1x512x512 32 := shapeCast S4x1x512x512 v15 shapeCasts_S4x1x512x512_S4x1x512x512
  have v19 : IVec S4x1x512x512 1 := shapeCast S4x1x512x512 (cmpi .ne v16 (broadcast S4x1x512x512 0#32)) shapeCasts_S4x1x512x512_S4x1x512x512
  select (broadcastTo S4x28x512x512 v19 broadcasts_S4x1x512x512_S4x28x512x512) v14 (broadcast S4x28x512x512 (Scalar.ofBits .f32 0xFF800000#32))

theorem scores_apply (v0 : Vec Ideal S112x512x128 .fp8e4m3) (v2 : Vec Ideal S112x512x128 .fp8e4m3) (v6 : Vec Ideal S4x28x1x1 .f32) (v10 : Vec Ideal S1x28x512x512 .bf16) (v15 : Vec Ideal S4x1x512x512 .i32)
    (b : Fin 4) (h : Fin 28) (i j : Fin 512) : scores v0 v2 v6 v10 v15 (ix4 b h i j) =
      Scalar.select (IntOp.cmpi CmpIPredicate.ne (v15 (ix4 b 0 i j)) 0#32)
        ((∑ x : Fin 128, v0 (ix3 ⟨b.val * 28 + h.val, by omega⟩ i x) * v2 (ix3 ⟨b.val * 28 + h.val, by omega⟩ j x)) * v6 (ix4 b h 0 0) + v10 (ix4 0 h i j))
        (Ideal.ofBits FTy.f32 0xFF800000#32) := by
  pointwise [scores]

/-- The softmax of the reference. -/
def soft (v22 : FVec Ideal S4x28x512x512 .f32) : FVec Ideal S4x28x512x512 .f32 :=
  have v27 : FVec Ideal S4x28x512x512 .f32 := exp (subf v22 (broadcastTo S4x28x512x512 (shapeCast S4x28x512x1 (multiReduction .maximumf [3] S4x28x512 v22 0xFF800000#32 reduces_S4x28x512x512_S4x28x512 (.inl rfl) rfl) shapeCasts_S4x28x512_S4x28x512x1) broadcasts_S4x28x512x1_S4x28x512x512))
  mulf v27 (broadcastTo S4x28x512x512 (divf (broadcast S4x28x512x1 (Scalar.ofBits .f32 0x3F800000#32))
    (shapeCast S4x28x512x1 (multiReduction .add [3] S4x28x512 v27 0x00000000#32 reduces_S4x28x512x512_S4x28x512 (.inl rfl) rfl) shapeCasts_S4x28x512_S4x28x512x1)) broadcasts_S4x28x512x1_S4x28x512x512)

theorem soft_apply (s : FVec Ideal S4x28x512x512 .f32) (b : Fin 4) (h : Fin 28) (i j : Fin 512) : soft s (ix4 b h i j) = Row.prob (fun j => s (ix4 b h i j)) j := by
  pointwise [soft, Row.prob, Row.ex, Row.rec, Row.top]

theorem pay1_eq (v0 : Vec Ideal S112x512x128 .fp8e4m3) (v2 : Vec Ideal S112x512x128 .fp8e4m3) (v6 : Vec Ideal S4x28x1x1 .f32) (v10 : Vec Ideal S1x28x512x512 .bf16) (v15 : Vec Ideal S4x1x512x512 .i32) : k0_pay1 v0 v2 v6 v10 v15 = soft (scores v0 v2 v6 v10 v15) := by
  rfl

theorem pay2_apply (v0 : Vec Ideal S112x512x128 .fp8e4m3) (v2 : Vec Ideal S112x512x128 .fp8e4m3) (v6 : Vec Ideal S4x28x1x1 .f32) (v10 : Vec Ideal S1x28x512x512 .bf16) (v15 : Vec Ideal S4x1x512x512 .i32)
    (b : Fin 4) (h : Fin 28) (i : Fin 512) : k0_pay2 v0 v2 v6 v10 v15 (ix3 b h i) = Row.top (fun j => k0_pay1 v0 v2 v6 v10 v15 (ix4 b h i j)) := by
  pointwise [k0_pay2, Row.top]

theorem pay3_apply (v33 : FVec Ideal S4x28x512x512 .f32) (v34 : FVec Ideal S4x28x512 .f32) (v60 : Vec Ideal S112x512x128 .fp8e4m3) (v65 : Vec Ideal S4x28x1x1 .f32)
    (b : Fin 4) (i : Fin 512) (y : Fin 3584) : k0_pay3 v33 v34 v60 v65 (ix3 b i y) =
      (∑ x : Fin 512, Row.rcode (v33 (ix4 b ⟨y.val / 128, by omega⟩ i x)) (v34 (ix3 b ⟨y.val / 128, by omega⟩ i)) * v60 (ix3 ⟨b.val * 28 + y.val / 128, by omega⟩ x ⟨y.val % 128, by omega⟩))
        * (Ideal.exp2 (Row.expo (v34 (ix3 b ⟨y.val / 128, by omega⟩ i))) * v65 (ix4 b ⟨y.val / 128, by omega⟩ 0 0)) := by
  unfold Row.rcode
  simp only [Row.expo_eq]
  have hh : (⟨(b.val * 28 + y.val / 128) % 28, Nat.mod_lt _ (by decide)⟩ : Fin 28) = ⟨y.val / 128, by omega⟩ :=
    Fin.ext (by show (b.val * 28 + y.val / 128) % 28 = y.val / 128; omega)
  pointwise [k0_pay3, Row.clip, Row.c]
  simp only [hh]
  rfl

/-- The reference's payload read at an index: one row of one head. -/
theorem pay_apply (v0 : Vec Ideal S112x512x128 .fp8e4m3) (v2 : Vec Ideal S112x512x128 .fp8e4m3) (v6 : Vec Ideal S4x28x1x1 .f32) (v10 : Vec Ideal S1x28x512x512 .bf16) (v15 : Vec Ideal S4x1x512x512 .i32)
    (v60 : Vec Ideal S112x512x128 .fp8e4m3) (v65 : Vec Ideal S4x28x1x1 .f32) (b : Fin 4) (i : Fin 512) (y : Fin 3584) :
    k0_pay3 (k0_pay1 v0 v2 v6 v10 v15) (k0_pay2 v0 v2 v6 v10 v15) v60 v65 (ix3 b i y) =
      Row.refVal (fun j => scores v0 v2 v6 v10 v15 (ix4 b ⟨y.val / 128, by omega⟩ i j))
        (fun j => v60 (ix3 ⟨b.val * 28 + y.val / 128, by omega⟩ j ⟨y.val % 128, by omega⟩)) (v65 (ix4 b ⟨y.val / 128, by omega⟩ 0 0)) := by
  rw [pay3_apply, pay2_apply, pay1_eq]
  simp only [soft_apply]
  rfl

end Cert.ReferenceIdeal.Hand
end
-- ==== Proof.RefArray.lean ====
module

public import proofs.«01_k».proof.Proof.RefHost
public import proofs.«01_k».proof.Proof.RefBody

@[expose] public section

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The arguments by coordinates. -/
def aq (c : Dev nD) (b : Fin 4) (i : Fin 512) (h : Fin 28) (x : Fin 128) : EReal := m ((c : Thread nD τ).loc main_arg0) (ix4 b i h x)
def aqs (c : Dev nD) (b : Fin 4) (h : Fin 28) : EReal := m ((c : Thread nD τ).loc main_arg1) (ix2 b h)
def ak (c : Dev nD) (b : Fin 4) (i : Fin 512) (h : Fin 28) (x : Fin 128) : EReal := m ((c : Thread nD τ).loc main_arg2) (ix4 b i h x)
def aks (c : Dev nD) (b : Fin 4) (h : Fin 28) : EReal := m ((c : Thread nD τ).loc main_arg3) (ix2 b h)
def av (c : Dev nD) (b : Fin 4) (i : Fin 512) (h : Fin 28) (x : Fin 128) : EReal := m ((c : Thread nD τ).loc main_arg4) (ix4 b i h x)
def avs (c : Dev nD) (b : Fin 4) (h : Fin 28) : EReal := m ((c : Thread nD τ).loc main_arg5) (ix2 b h)
def abias (c : Dev nD) (l : Fin 32) (h : Fin 28) : EReal := m ((c : Thread nD τ).loc main_arg6) (ix2 l h)
def aseg (c : Dev nD) (b : Fin 4) (j : Fin 512) : BitVec 32 := m ((c : Thread nD τ).loc main_arg7) (ix2 b j)

/-- The result array. -/
def result (c : Dev nD) (y : S4x512x3584.Idx) : EReal :=
  Row.attn (aq m c) (ak m c) (av m c) (aqs m c) (aks m c) (avs m c) (abias m c) (aseg m c) (y 0) (y 1) (y 2)

/-- A segment word compared and widened is nonzero exactly when the two are equal. -/
theorem seg_select (a b : BitVec 32) (s : EReal) :
    Scalar.select (IntOp.cmpi .ne (BitVec.setWidth 32 (IntOp.cmpi .eq a b)) 0#32) s (Ideal.ofBits .f32 0xFF800000#32) = if a = b then s else ⊥ := by
  have hbot : Ideal.ofBits .f32 0xFF800000#32 = ⊥ := by rfl
  by_cases h : a = b
  · subst h
    have e : IntOp.cmpi .eq a a = 1#1 := by simp [IntOp.cmpi]
    rw [e, if_pos rfl]
    rfl
  · have e : IntOp.cmpi .eq a b = 0#1 := by show BitVec.ofBool (a == b) = 0#1; rw [beq_false_of_ne h]; rfl
    rw [e, if_neg h, ← hbot]
    rfl

/-- One score of the reference at its launched arrays. -/
theorem scores_eq (c : Dev nD) (b : Fin 4) (h : Fin 28) (i j : Fin 512) :
    scores (V m c main_v61) (V m c main_v63) (V m c main_v67) (V m c main_v69) (V m c main_v70) (ix4 b h i j)
      = Row.score (aq m c) (ak m c) (aqs m c) (aks m c) (abias m c) (aseg m c) b h i j := by
  have e1 : (⟨(b.val * 28 + h.val) / 28, by omega⟩ : Fin 4) = b := Fin.ext (by
    show (b.val * 28 + h.val) / 28 = b.val
    omega)
  have e2 : (⟨(b.val * 28 + h.val) % 28, by omega⟩ : Fin 28) = h := Fin.ext (by
    show (b.val * 28 + h.val) % 28 = h.val
    omega)
  have hq : ∀ x, (V m c main_v61 : Vec Ideal S112x512x128 .fp8e4m3) (ix3 ⟨b.val * 28 + h.val, by omega⟩ i x) = aq m c b i h x := fun x => by
    refine (host61 m c _ i x).trans ?_
    unfold aq
    rw [e1, e2]
  have hk : ∀ x, (V m c main_v63 : Vec Ideal S112x512x128 .fp8e4m3) (ix3 ⟨b.val * 28 + h.val, by omega⟩ j x) = ak m c b j h x := fun x => by
    refine (host63 m c _ j x).trans ?_
    unfold ak
    rw [e1, e2]
  have hs : (V m c main_v67 : Vec Ideal S4x28x1x1 .f32) (ix4 b h 0 0) = aqs m c b h * aks m c b h := host67 m c b h
  have hb : (V m c main_v69 : Vec Ideal S1x28x512x512 .bf16) (ix4 0 h i j) = abias m c (Row.refRow (IntOp.subi (BitVec.ofNat 32 j.val) (BitVec.ofNat 32 i.val))) h := host69 m c h i j
  have hm : (V m c main_v70 : Vec Ideal S4x1x512x512 .i32) (ix4 b 0 i j) = BitVec.setWidth 32 (IntOp.cmpi .eq (aseg m c b i) (aseg m c b j)) := host70 m c b i j
  rw [scores_apply, hs, hb, hm, seg_select]
  simp only [hq, hk]
  rfl

/-- What the reference's one block computes. -/
theorem out_eq (c : Dev nD) (b : Fin 4) (i : Fin 512) (y : Fin 3584) :
    k0_pay3 (k0_pay1 (V m c main_v61) (V m c main_v63) (V m c main_v67) (V m c main_v69) (V m c main_v70))
      (k0_pay2 (V m c main_v61) (V m c main_v63) (V m c main_v67) (V m c main_v69) (V m c main_v70)) (V m c main_v65) (V m c main_v68) (ix3 b i y)
      = Row.attn (aq m c) (ak m c) (av m c) (aqs m c) (aks m c) (avs m c) (abias m c) (aseg m c) b i y := by
  have e1 : (⟨(b.val * 28 + y.val / 128) / 28, by omega⟩ : Fin 4) = b := Fin.ext (by
    show (b.val * 28 + y.val / 128) / 28 = b.val
    omega)
  have e2 : (⟨(b.val * 28 + y.val / 128) % 28, by omega⟩ : Fin 28) = ⟨y.val / 128, by omega⟩ := Fin.ext (by
    show (b.val * 28 + y.val / 128) % 28 = y.val / 128
    omega)
  have hv : ∀ j, (V m c main_v65 : Vec Ideal S112x512x128 .fp8e4m3) (ix3 ⟨b.val * 28 + y.val / 128, by omega⟩ j ⟨y.val % 128, by omega⟩)
      = av m c b j ⟨y.val / 128, by omega⟩ ⟨y.val % 128, by omega⟩ := fun j => by
    refine (host65 m c _ j _).trans ?_
    unfold av
    rw [e1, e2]
  have hs : (V m c main_v68 : Vec Ideal S4x28x1x1 .f32) (ix4 b ⟨y.val / 128, by omega⟩ 0 0) = avs m c b ⟨y.val / 128, by omega⟩ := host68 m c b _
  exact (pay_apply _ _ _ _ _ _ _ b i y).trans (Row.refVal_congr (fun j => scores_eq m c b _ i j) hv hs)

/-! Every window's one block is its whole array. -/
theorem idx0 : ∀ t : Fin cfg0.N, win0_0.index t = ![0, 0, 0] := (by decide +kernel : ∀ t : Fin grid0.N, win0_0.index t = ![0, 0, 0])
theorem in0 (c : Dev nD) (t : Fin cfg0.N) : (iblk m c 0 t : Vec Ideal S112x512x128 .fp8e4m3) = V m c main_v61 := by
  funext z
  blk_simp [iblk]
  refine congrArg (V m c main_v61) (funext fun a => Fin.ext ?_)
  fin_cases a
  · blk_simp [idx0] <;> rfl
  · blk_simp [idx0] <;> rfl
  · blk_simp [idx0] <;> rfl
theorem idx1 : ∀ t : Fin cfg0.N, win0_1.index t = ![0, 0, 0] := (by decide +kernel : ∀ t : Fin grid0.N, win0_1.index t = ![0, 0, 0])
theorem in1 (c : Dev nD) (t : Fin cfg0.N) : (iblk m c 1 t : Vec Ideal S112x512x128 .fp8e4m3) = V m c main_v63 := by
  funext z
  blk_simp [iblk]
  refine congrArg (V m c main_v63) (funext fun a => Fin.ext ?_)
  fin_cases a
  · blk_simp [idx1] <;> rfl
  · blk_simp [idx1] <;> rfl
  · blk_simp [idx1] <;> rfl
theorem idx2 : ∀ t : Fin cfg0.N, win0_2.index t = ![0, 0, 0] := (by decide +kernel : ∀ t : Fin grid0.N, win0_2.index t = ![0, 0, 0])
theorem in2 (c : Dev nD) (t : Fin cfg0.N) : (iblk m c 2 t : Vec Ideal S112x512x128 .fp8e4m3) = V m c main_v65 := by
  funext z
  blk_simp [iblk]
  refine congrArg (V m c main_v65) (funext fun a => Fin.ext ?_)
  fin_cases a
  · blk_simp [idx2] <;> rfl
  · blk_simp [idx2] <;> rfl
  · blk_simp [idx2] <;> rfl
theorem idx3 : ∀ t : Fin cfg0.N, win0_3.index t = ![0, 0, 0, 0] := (by decide +kernel : ∀ t : Fin grid0.N, win0_3.index t = ![0, 0, 0, 0])
theorem in3 (c : Dev nD) (t : Fin cfg0.N) : (iblk m c 3 t : Vec Ideal S4x28x1x1 .f32) = V m c main_v67 := by
  funext z
  blk_simp [iblk]
  refine congrArg (V m c main_v67) (funext fun a => Fin.ext ?_)
  fin_cases a
  · blk_simp [idx3] <;> rfl
  · blk_simp [idx3] <;> rfl
  · blk_simp [idx3] <;> rfl
  · blk_simp [idx3] <;> rfl
theorem idx4 : ∀ t : Fin cfg0.N, win0_4.index t = ![0, 0, 0, 0] := (by decide +kernel : ∀ t : Fin grid0.N, win0_4.index t = ![0, 0, 0, 0])
theorem in4 (c : Dev nD) (t : Fin cfg0.N) : (iblk m c 4 t : Vec Ideal S4x28x1x1 .f32) = V m c main_v68 := by
  funext z
  blk_simp [iblk]
  refine congrArg (V m c main_v68) (funext fun a => Fin.ext ?_)
  fin_cases a
  · blk_simp [idx4] <;> rfl
  · blk_simp [idx4] <;> rfl
  · blk_simp [idx4] <;> rfl
  · blk_simp [idx4] <;> rfl
theorem idx5 : ∀ t : Fin cfg0.N, win0_5.index t = ![0, 0, 0, 0] := (by decide +kernel : ∀ t : Fin grid0.N, win0_5.index t = ![0, 0, 0, 0])
theorem in5 (c : Dev nD) (t : Fin cfg0.N) : (iblk m c 5 t : Vec Ideal S1x28x512x512 .bf16) = V m c main_v69 := by
  funext z
  blk_simp [iblk]
  refine congrArg (V m c main_v69) (funext fun a => Fin.ext ?_)
  fin_cases a
  · blk_simp [idx5] <;> rfl
  · blk_simp [idx5] <;> rfl
  · blk_simp [idx5] <;> rfl
  · blk_simp [idx5] <;> rfl
theorem idx6 : ∀ t : Fin cfg0.N, win0_6.index t = ![0, 0, 0, 0] := (by decide +kernel : ∀ t : Fin grid0.N, win0_6.index t = ![0, 0, 0, 0])
theorem in6 (c : Dev nD) (t : Fin cfg0.N) : (iblk m c 6 t : Vec Ideal S4x1x512x512 .i32) = V m c main_v70 := by
  funext z
  blk_simp [iblk]
  refine congrArg (V m c main_v70) (funext fun a => Fin.ext ?_)
  fin_cases a
  · blk_simp [idx6] <;> rfl
  · blk_simp [idx6] <;> rfl
  · blk_simp [idx6] <;> rfl
  · blk_simp [idx6] <;> rfl
theorem idx7 : ∀ t : Fin cfg0.N, win0_7.index t = ![0, 0, 0] := (by decide +kernel : ∀ t : Fin grid0.N, win0_7.index t = ![0, 0, 0])

/-- The block entry is the result's entry at the same place. -/
theorem out_at (c : Dev nD) (y z : S4x512x3584.Idx) (h0 : (z 0).val = (y 0).val) (h1 : (z 1).val = (y 1).val) (h2 : (z 2).val = (y 2).val) :
    k0_pay3 (k0_pay1 (V m c main_v61) (V m c main_v63) (V m c main_v67) (V m c main_v69) (V m c main_v70))
      (k0_pay2 (V m c main_v61) (V m c main_v63) (V m c main_v67) (V m c main_v69) (V m c main_v70)) (V m c main_v65) (V m c main_v68) y
      = result m c z := by
  have e : y = ix3 (y 0) (y 1) (y 2) := funext fun a => by fin_cases a <;> rfl
  have ez : z = ix3 (y 0) (y 1) (y 2) := funext fun a => Fin.ext (by
    fin_cases a
    · exact h0
    · exact h1
    · exact h2)
  rw [ez]
  have hr : result m c (ix3 (y 0) (y 1) (y 2)) = Row.attn (aq m c) (ak m c) (av m c) (aqs m c) (aks m c) (avs m c) (abias m c) (aseg m c) (y 0) (y 1) (y 2) := by
    rfl
  exact (congrArg _ e).trans ((out_eq m c (y 0) (y 1) (y 2)).trans hr.symm)

/-- The reference's result array. -/
theorem final_o (c : Dev nD) : (dats m 0 c).arrAt 7 cfg0.N = (result m c : S4x512x3584.Idx → EReal) := by
  refine (dats m 0 c).arrAt_eq_of_covers 7 _ (by decide +kernel) fun t hf y => ?_
  rw [after0_7, in0, in1, in2, in3, in4, in5, in6]
  refine (cast_eq _ _).trans ?_
  frame_out
  refine out_at m c _ _ ?_ ?_ ?_
  · blk_simp [idx7] <;> rfl
  · blk_simp [idx7] <;> rfl
  · blk_simp [idx7] <;> rfl

/-- The run: the result array ends at the result of the argument arrays, which end unchanged. -/
theorem value (ρ : Dev nD → PrngReg) : θ_run defs (onTc (τ := τ) (main (F := Ideal))) ⟨m, fun _ => 0, ρ⟩ (fun r => ∀ c : Dev nD,
      r.2.mem ((c.tc : Thread nD τ).loc main_v71) = (result m c : S4x512x3584.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (θ_run_and (frame_of m ρ (dats m) (A_eq m) (run_main m ρ)) (run_main m ρ))
  refine ⟨?_, h.1 c⟩
  exact (Pipeline.FramePost.out_eq h.2 c 7).trans (final_o m c)

end Cert.ReferenceIdeal.Hand
end
-- ==== Proof.Equation.lean ====
module

public import proofs.«01_k».proof.Defs
public import proofs.«01_k».proof.Proof.Array
public import proofs.«01_k».proof.Proof.RefArray

@[expose] public section

noncomputable section

namespace Cert.Proof

open Idealize.ShloMosaic Idealize.SL.Sem

/-- From equal arguments the two programs end at one result array. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => KernelIdeal.Hand.result m c, KernelIdeal.Hand.value m g, ?_⟩
  refine (θ_run _ _ _).mono (fun r hr c => ⟨(hr c).1.trans ?_, (hr c).2⟩) (ReferenceIdeal.Hand.value m' g')
  have e0 : ReferenceIdeal.Hand.aq m' c = KernelIdeal.Hand.aq m c := funext fun b => funext fun i => funext fun n => funext fun x => congrFun (h c).1 (ValueIdx.ix4 b i n x)
  have e1 : ReferenceIdeal.Hand.aqs m' c = KernelIdeal.Hand.aqs m c := funext fun b => funext fun n => congrFun (h c).2.1 (ValueIdx.ix2 b n)
  have e2 : ReferenceIdeal.Hand.ak m' c = KernelIdeal.Hand.ak m c := funext fun b => funext fun i => funext fun n => funext fun x => congrFun (h c).2.2.1 (ValueIdx.ix4 b i n x)
  have e3 : ReferenceIdeal.Hand.aks m' c = KernelIdeal.Hand.aks m c := funext fun b => funext fun n => congrFun (h c).2.2.2.1 (ValueIdx.ix2 b n)
  have e4 : ReferenceIdeal.Hand.av m' c = KernelIdeal.Hand.av m c := funext fun b => funext fun i => funext fun n => funext fun x => congrFun (h c).2.2.2.2.1 (ValueIdx.ix4 b i n x)
  have e5 : ReferenceIdeal.Hand.avs m' c = KernelIdeal.Hand.avs m c := funext fun b => funext fun n => congrFun (h c).2.2.2.2.2.1 (ValueIdx.ix2 b n)
  have e6 : ReferenceIdeal.Hand.abias m' c = KernelIdeal.Hand.abias m c := funext fun b => funext fun n => congrFun (h c).2.2.2.2.2.2.1 (ValueIdx.ix2 b n)
  have e7 : ReferenceIdeal.Hand.aseg m' c = KernelIdeal.Hand.aseg m c := funext fun b => funext fun n => congrFun (h c).2.2.2.2.2.2.2 (ValueIdx.ix2 b n)
  refine funext fun y => ?_
  show Row.attn (ReferenceIdeal.Hand.aq m' c) (ReferenceIdeal.Hand.ak m' c) (ReferenceIdeal.Hand.av m' c) (ReferenceIdeal.Hand.aqs m' c) (ReferenceIdeal.Hand.aks m' c)
      (ReferenceIdeal.Hand.avs m' c) (ReferenceIdeal.Hand.abias m' c) (ReferenceIdeal.Hand.aseg m' c) (y 0) (y 1) (y 2)
    = Row.attn (KernelIdeal.Hand.aq m c) (KernelIdeal.Hand.ak m c) (KernelIdeal.Hand.av m c) (KernelIdeal.Hand.aqs m c) (KernelIdeal.Hand.aks m c)
      (KernelIdeal.Hand.avs m c) (KernelIdeal.Hand.abias m c) (KernelIdeal.Hand.aseg m c) (y 0) (y 1) (y 2)
  rw [e0, e1, e2, e3, e4, e5, e6, e7]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, fun m ρ _ => Cert.Kernel.Hand.frame m ρ,
    fun m ρ _ => Cert.KernelIdeal.Hand.frame m ρ, fun m ρ _ => Cert.ReferenceIdeal.Gen.frame m ρ,
    IdealRules.named_const.statement Cert.KernelIdeal.κ "log2e" .f32 0x3FB8AA3B#32 (((Real.log 2)⁻¹ : ℝ) : EReal) rfl, algebraic⟩

end Cert.Proof

end
